-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_ids_and_plain_gates [hPre_distinct_ids_and_plain_gates : Cert.Pre_distinct_ids_and_plain_gates.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_ids_and_plain_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_distinct_ids_and_plain_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_ids_and_plain_gates [hPre_distinct_ids_and_plain_gates : Cert.Pre_distinct_ids_and_plain_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_ids_and_plain_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_distinct_ids_and_plain_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_distinct_ids_and_plain_gates [hKernelIdeal : Cert.KernelIdeal.Facts] [hPre_distinct_ids_and_plain_gates : Cert.Pre_distinct_ids_and_plain_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_ids_and_plain_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_distinct_ids_and_plain_gates [hReferenceIdeal : Cert.ReferenceIdeal.Facts] [hPre_distinct_ids_and_plain_gates : Cert.Pre_distinct_ids_and_plain_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_ids_and_plain_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.PackStatement Cert.KernelIdeal.S128x128
  ∧ IdealRules.bf16_pair.Statement Cert.KernelIdeal.S256x128 Cert.KernelIdeal.S128x128
  ∧ IdealRules.bf16_pair.Statement Cert.KernelIdeal.S16x128 Cert.KernelIdeal.S8x128
  ∧ IdealRules.bf16_pair.Statement Cert.KernelIdeal.S64x128 Cert.KernelIdeal.S32x128

def algebraic_KernelIdeal_ReferenceIdeal_on_router_results_and_plain_blocks_pre_distinct_ids_and_plain_gates [hKernelIdeal : Cert.KernelIdeal.Facts] [hReferenceIdeal : Cert.ReferenceIdeal.Facts] [hPre_distinct_ids_and_plain_gates : Cert.Pre_distinct_ids_and_plain_gates.Facts] [hOn_router_results_and_plain_blocks : Cert.On_router_results_and_plain_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_ids_and_plain_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![24, 3072, 2048]⟩ : Shape).Idx, (Cert.On_router_results_and_plain_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v2_0) i = v0 c i)
          ∧ (∀ i : (⟨2, ![2048, 128]⟩ : Shape).Idx, (Cert.On_router_results_and_plain_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v2_1) i = v1 c i)
          ∧ (∀ i : (⟨3, ![24, 3072, 128]⟩ : Shape).Idx, (Cert.On_router_results_and_plain_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v2_2) i = v2 c i)
          ∧ (∀ i : (⟨3, ![24, 3072, 2048]⟩ : Shape).Idx, (Cert.On_router_results_and_plain_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v2_3) i = v3 c i)
          ∧ (∀ i : (⟨3, ![24, 32, 3072]⟩ : Shape).Idx, (Cert.On_router_results_and_plain_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.KernelIdeal.nD Cert.KernelIdeal.τ).loc Cert.KernelIdeal.main_v2_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![24, 3072, 2048]⟩ : Shape).Idx, (Cert.On_router_results_and_plain_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v0_0) i = v0 c i)
          ∧ (∀ i : (⟨2, ![2048, 128]⟩ : Shape).Idx, (Cert.On_router_results_and_plain_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v0_1) i = v1 c i)
          ∧ (∀ i : (⟨3, ![24, 3072, 128]⟩ : Shape).Idx, (Cert.On_router_results_and_plain_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v0_2) i = v2 c i)
          ∧ (∀ i : (⟨3, ![24, 3072, 2048]⟩ : Shape).Idx, (Cert.On_router_results_and_plain_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v0_3) i = v3 c i)
          ∧ (∀ i : (⟨3, ![24, 32, 3072]⟩ : Shape).Idx, (Cert.On_router_results_and_plain_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.ReferenceIdeal.nD Cert.ReferenceIdeal.τ).loc Cert.ReferenceIdeal.main_v0_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_distinct_ids_and_plain_gates : Cert.Pre_distinct_ids_and_plain_gates.Facts) (hOn_router_results_and_plain_blocks : Cert.On_router_results_and_plain_blocks.Facts),
    quiescent_Kernel (hKernel := hKernel)
    ∧ quiescent_KernelIdeal (hKernelIdeal := hKernelIdeal)
    ∧ quiescent_KernelIdeal_pre_distinct_ids_and_plain_gates (hKernelIdeal := hKernelIdeal) (hPre_distinct_ids_and_plain_gates := hPre_distinct_ids_and_plain_gates)
    ∧ quiescent_ReferenceIdeal (hReferenceIdeal := hReferenceIdeal)
    ∧ quiescent_ReferenceIdeal_pre_distinct_ids_and_plain_gates (hReferenceIdeal := hReferenceIdeal) (hPre_distinct_ids_and_plain_gates := hPre_distinct_ids_and_plain_gates)
    ∧ preserves_Kernel_KernelIdeal
    ∧ algebraic_KernelIdeal_ReferenceIdeal_on_router_results_and_plain_blocks_pre_distinct_ids_and_plain_gates (hKernelIdeal := hKernelIdeal) (hReferenceIdeal := hReferenceIdeal) (hPre_distinct_ids_and_plain_gates := hPre_distinct_ids_and_plain_gates) (hOn_router_results_and_plain_blocks := hOn_router_results_and_plain_blocks)
-- ==== On_router_results_and_plain_blocks.lean ====
abbrev S24x3072x2048 : Shape := ⟨3, ![24, 3072, 2048]⟩
abbrev S24x3072 : Shape := ⟨2, ![24, 3072]⟩
abbrev S2048x128 : Shape := ⟨2, ![2048, 128]⟩
abbrev S24x3072x8 : Shape := ⟨3, ![24, 3072, 8]⟩
abbrev S24x3072x32x64 : Shape := ⟨4, ![24, 3072, 32, 64]⟩
abbrev S_ : Shape := ⟨0, ![]⟩
abbrev S24x3072x32 : Shape := ⟨3, ![24, 3072, 32]⟩
abbrev S2048 : Shape := ⟨1, ![2048]⟩
abbrev S32x64 : Shape := ⟨2, ![32, 64]⟩
abbrev S32 : Shape := ⟨1, ![32]⟩
abbrev S24x3072x1 : Shape := ⟨3, ![24, 3072, 1]⟩
abbrev S1x1x32 : Shape := ⟨3, ![1, 1, 32]⟩
abbrev S1x1x1x246 : Shape := ⟨4, ![1, 1, 1, 246]⟩
abbrev S24x3072x32x1 : Shape := ⟨4, ![24, 3072, 32, 1]⟩
abbrev S24x3072x32x246 : Shape := ⟨4, ![24, 3072, 32, 246]⟩
abbrev S24x3072x128 : Shape := ⟨3, ![24, 3072, 128]⟩
abbrev S24x32x3072 : Shape := ⟨3, ![24, 32, 3072]⟩

class Facts : Prop where
  bitsLt_bf16_f32 : FTy.bits .bf16 < FTy.bits .f32
  shapeCasts_S24x3072x2048_S24x3072x32x64 : S24x3072x2048.ShapeCasts S24x3072x32x64
  reducesTo_S24x3072x32x64_S24x3072x32_d3 : S24x3072x32x64.ReducesTo [3] S24x3072x32
  h_S_ : 0 < S_.numel
  reducesTo_S24x3072x8_S24x3072_d2 : S24x3072x8.ReducesTo [2] S24x3072
  reducesTo_S2048x128_S2048_d1 : S2048x128.ReducesTo [1] S2048
  shapeCasts_S2048_S32x64 : S2048.ShapeCasts S32x64
  reducesTo_S32x64_S32_d1 : S32x64.ReducesTo [1] S32
  bcast_S_S24x3072 : S_.BroadcastsInDim S24x3072 (![] : Fin 0 → Fin S24x3072.rank)
  bcast_S24x3072_S24x3072x1_0_1 : S24x3072.BroadcastsInDim S24x3072x1 (![0, 1] : Fin 2 → Fin S24x3072x1.rank)
  bcast_S32_S1x1x32_2 : S32.BroadcastsInDim S1x1x32 (![2] : Fin 1 → Fin S1x1x32.rank)
  bcast_S24x3072x1_S24x3072x32_0_1_2 : S24x3072x1.BroadcastsInDim S24x3072x32 (![0, 1, 2] : Fin 3 → Fin S24x3072x32.rank)
  bcast_S1x1x32_S24x3072x32_0_1_2 : S1x1x32.BroadcastsInDim S24x3072x32 (![0, 1, 2] : Fin 3 → Fin S24x3072x32.rank)
  bcast_S_S1x1x1x246 : S_.BroadcastsInDim S1x1x1x246 (![] : Fin 0 → Fin S1x1x1x246.rank)
  bcast_S24x3072x32_S24x3072x32x1_0_1_2 : S24x3072x32.BroadcastsInDim S24x3072x32x1 (![0, 1, 2] : Fin 3 → Fin S24x3072x32x1.rank)
  bcast_S24x3072x32x1_S24x3072x32x246_0_1_2_3 : S24x3072x32x1.BroadcastsInDim S24x3072x32x246 (![0, 1, 2, 3] : Fin 4 → Fin S24x3072x32x246.rank)
  bcast_S1x1x1x246_S24x3072x32x246_0_1_2_3 : S1x1x1x246.BroadcastsInDim S24x3072x32x246 (![0, 1, 2, 3] : Fin 4 → Fin S24x3072x32x246.rank)
  reducesTo_S24x3072x32x246_S24x3072x32_d3 : S24x3072x32x246.ReducesTo [3] S24x3072x32
  bcast_S_S24x3072x32 : S_.BroadcastsInDim S24x3072x32 (![] : Fin 0 → Fin S24x3072x32.rank)
  bcast_S_S24x3072x2048 : S_.BroadcastsInDim S24x3072x2048 (![] : Fin 0 → Fin S24x3072x2048.rank)
  bcast_S_S2048x128 : S_.BroadcastsInDim S2048x128 (![] : Fin 0 → Fin S2048x128.rank)
  bcast_S_S24x3072x128 : S_.BroadcastsInDim S24x3072x128 (![] : Fin 0 → Fin S24x3072x128.rank)
  bcast_S24x3072x32_S24x3072x32x64_0_1_2 : S24x3072x32.BroadcastsInDim S24x3072x32x64 (![0, 1, 2] : Fin 3 → Fin S24x3072x32x64.rank)
  shapeCasts_S24x3072x32x64_S24x3072x2048 : S24x3072x32x64.ShapeCasts S24x3072x2048
  transposes_S24x3072x32_S24x32x3072_0_2_1 : S24x3072x32.Transposes [0, 2, 1] S24x32x3072

variable [Facts]

def fn_part2 {F : FTy → Type} [FloatOps F] (main_v3 : FVec F S24x3072x32 .f32) (main_v6 : FVec F S24x3072 .f32) (main_v31 : IVec S24x3072x32x246 1) (main_v38 : IVec S24x3072x32x246 1) : IVec S24x3072x2048 1 × IVec S2048x128 1 × IVec S24x3072x128 1 × IVec S24x3072x2048 1 × IVec S24x32x3072 1 :=
  let main_v39 : IVec S24x3072x32x246 1 := andi main_v31 main_v38
  let main_c_7 : IVec S_ 1 := constantI S_ 1 0#1
  let main_v40 : IVec S24x3072x32 1 := (fun x v => Host.reduce IntOp.ori x v reducesTo_S24x3072x32x246_S24x3072x32_d3 h_S_) main_v39 main_c_7
  let main_cst_8 : FVec F S_ .f32 := constant S_ .f32 0x00000000#32
  let main_v41 : FVec F S24x3072x32 .f32 := broadcastInDim S24x3072x32 ![] bcast_S_S24x3072x32 main_cst_8
  let main_v42 : IVec S24x3072x32 1 := cmpf .oeq main_v3 main_v41
  let main_cst_9 : FVec F S_ .f32 := constant S_ .f32 0x00000000#32
  let main_v43 : FVec F S24x3072 .f32 := broadcastInDim S24x3072 ![] bcast_S_S24x3072 main_cst_9
  let main_v44 : IVec S24x3072 1 := cmpf .oeq main_v6 main_v43
  let main_v45 : IVec S24x3072x1 1 := broadcastInDim S24x3072x1 ![0, 1] bcast_S24x3072_S24x3072x1_0_1 main_v44
  let main_v46 : IVec S24x3072x32 1 := broadcastInDim S24x3072x32 ![0, 1, 2] bcast_S24x3072x1_S24x3072x32_0_1_2 main_v45
  let main_v47 : IVec S24x3072x32 1 := andi main_v42 main_v46
  let main_v48 : IVec S24x3072x32 1 := ori main_v40 main_v47
  let main_c_10 : IVec S_ 1 := constantI S_ 1 1#1
  let main_v49 : IVec S24x3072x2048 1 := broadcastInDim S24x3072x2048 ![] bcast_S_S24x3072x2048 main_c_10
  let main_c_11 : IVec S_ 1 := constantI S_ 1 1#1
  let main_v50 : IVec S2048x128 1 := broadcastInDim S2048x128 ![] bcast_S_S2048x128 main_c_11
  let main_c_12 : IVec S_ 1 := constantI S_ 1 1#1
  let main_v51 : IVec S24x3072x128 1 := broadcastInDim S24x3072x128 ![] bcast_S_S24x3072x128 main_c_12
  let main_v52 : IVec S24x3072x32x64 1 := broadcastInDim S24x3072x32x64 ![0, 1, 2] bcast_S24x3072x32_S24x3072x32x64_0_1_2 main_v48
  let main_v53 : IVec S24x3072x2048 1 := shapeCast S24x3072x2048 main_v52 shapeCasts_S24x3072x32x64_S24x3072x2048
  let main_v54 : IVec S24x32x3072 1 := (transpose S24x32x3072 [0, 2, 1] · transposes_S24x3072x32_S24x32x3072_0_2_1) main_v48
  (main_v49, main_v50, main_v51, main_v53, main_v54)

def fn_part1 {F : FTy → Type} [FloatOps F] (main_v3 : FVec F S24x3072x32 .f32) (main_v6 : FVec F S24x3072 .f32) (main_v18 : FVec F S24x3072x32 .f32) : IVec S24x3072x2048 1 × IVec S2048x128 1 × IVec S24x3072x128 1 × IVec S24x3072x2048 1 × IVec S24x32x3072 1 :=
  let main_v19 : IVec S1x1x1x246 32 := iotaInDim S1x1x1x246 32 3
  let main_c : IVec S_ 32 := constantI S_ 32 1#32
  let main_v20 : IVec S1x1x1x246 32 := broadcastInDim S1x1x1x246 ![] bcast_S_S1x1x1x246 main_c
  let main_v21 : IVec S1x1x1x246 32 := addi main_v19 main_v20
  let main_c_4 : IVec S_ 32 := constantI S_ 32 23#32
  let main_v22 : IVec S1x1x1x246 32 := broadcastInDim S1x1x1x246 ![] bcast_S_S1x1x1x246 main_c_4
  let main_v23 : IVec S1x1x1x246 32 := Host.shli main_v21 main_v22
  let main_v24 : FVec F S1x1x1x246 .f32 := bitcastToFloat .f32 main_v23
  let main_v25 : FVec F S24x3072x32 .f32 := subf main_v3 main_v18
  let main_v26 : FVec F S24x3072x32x1 .f32 := broadcastInDim S24x3072x32x1 ![0, 1, 2] bcast_S24x3072x32_S24x3072x32x1_0_1_2 main_v25
  let main_cst_5 : FVec F S_ .f32 := constant S_ .f32 0x43E08000#32
  let main_v27 : FVec F S1x1x1x246 .f32 := broadcastInDim S1x1x1x246 ![] bcast_S_S1x1x1x246 main_cst_5
  let main_v28 : FVec F S1x1x1x246 .f32 := mulf main_v27 main_v24
  let main_v29 : FVec F S24x3072x32x246 .f32 := broadcastInDim S24x3072x32x246 ![0, 1, 2, 3] bcast_S24x3072x32x1_S24x3072x32x246_0_1_2_3 main_v26
  let main_v30 : FVec F S24x3072x32x246 .f32 := broadcastInDim S24x3072x32x246 ![0, 1, 2, 3] bcast_S1x1x1x246_S24x3072x32x246_0_1_2_3 main_v28
  let main_v31 : IVec S24x3072x32x246 1 := cmpf .oge main_v29 main_v30
  let main_v32 : FVec F S24x3072x32 .f32 := addf main_v3 main_v18
  let main_v33 : FVec F S24x3072x32x1 .f32 := broadcastInDim S24x3072x32x1 ![0, 1, 2] bcast_S24x3072x32_S24x3072x32x1_0_1_2 main_v32
  let main_cst_6 : FVec F S_ .f32 := constant S_ .f32 0x445FC000#32
  let main_v34 : FVec F S1x1x1x246 .f32 := broadcastInDim S1x1x1x246 ![] bcast_S_S1x1x1x246 main_cst_6
  let main_v35 : FVec F S1x1x1x246 .f32 := mulf main_v34 main_v24
  let main_v36 : FVec F S24x3072x32x246 .f32 := broadcastInDim S24x3072x32x246 ![0, 1, 2, 3] bcast_S24x3072x32x1_S24x3072x32x246_0_1_2_3 main_v33
  let main_v37 : FVec F S24x3072x32x246 .f32 := broadcastInDim S24x3072x32x246 ![0, 1, 2, 3] bcast_S1x1x1x246_S24x3072x32x246_0_1_2_3 main_v35
  let main_v38 : IVec S24x3072x32x246 1 := cmpf .olt main_v36 main_v37
  fn_part2 (F := F) main_v3 main_v6 main_v31 main_v38

def fn {F : FTy → Type} [FloatOps F] (main_arg0 : FVec F S24x3072x2048 .fp8e4m3) (main_arg1 : FVec F S24x3072 .f32) (main_arg2 : FVec F S2048x128 .bf16) (main_arg3 : IVec S24x3072x8 32) (main_arg4 : FVec F S24x3072x8 .bf16) (main_arg5 : FVec F S24x3072x2048 .bf16) : IVec S24x3072x2048 1 × IVec S2048x128 1 × IVec S24x3072x128 1 × IVec S24x3072x2048 1 × IVec S24x32x3072 1 :=
  let main_v0 : FVec F S24x3072x2048 .f32 := (extf .f32 · bitsLt_bf16_f32) main_arg5
  let main_v1 : FVec F S24x3072x32x64 .f32 := shapeCast S24x3072x32x64 main_v0 shapeCasts_S24x3072x2048_S24x3072x32x64
  let main_v2 : FVec F S24x3072x32x64 .f32 := Host.absf main_v1
  let main_cst : FVec F S_ .f32 := constant S_ .f32 0xFF800000#32
  let main_v3 : FVec F S24x3072x32 .f32 := (fun x v => Host.reduce FloatOps.maximumf x v reducesTo_S24x3072x32x64_S24x3072x32_d3 h_S_) main_v2 main_cst
  let main_v4 : FVec F S24x3072x8 .f32 := (extf .f32 · bitsLt_bf16_f32) main_arg4
  let main_v5 : FVec F S24x3072x8 .f32 := Host.absf main_v4
  let main_cst_0 : FVec F S_ .f32 := constant S_ .f32 0xFF800000#32
  let main_v6 : FVec F S24x3072 .f32 := (fun x v => Host.reduce FloatOps.maximumf x v reducesTo_S24x3072x8_S24x3072_d2 h_S_) main_v5 main_cst_0
  let main_v7 : FVec F S2048x128 .f32 := (extf .f32 · bitsLt_bf16_f32) main_arg2
  let main_v8 : FVec F S2048x128 .f32 := Host.absf main_v7
  let main_cst_1 : FVec F S_ .f32 := constant S_ .f32 0xFF800000#32
  let main_v9 : FVec F S2048 .f32 := (fun x v => Host.reduce FloatOps.maximumf x v reducesTo_S2048x128_S2048_d1 h_S_) main_v8 main_cst_1
  let main_v10 : FVec F S32x64 .f32 := shapeCast S32x64 main_v9 shapeCasts_S2048_S32x64
  let main_cst_2 : FVec F S_ .f32 := constant S_ .f32 0xFF800000#32
  let main_v11 : FVec F S32 .f32 := (fun x v => Host.reduce FloatOps.maximumf x v reducesTo_S32x64_S32_d1 h_S_) main_v10 main_cst_2
  let main_cst_3 : FVec F S_ .f32 := constant S_ .f32 0x40000000#32
  let main_v12 : FVec F S24x3072 .f32 := broadcastInDim S24x3072 ![] bcast_S_S24x3072 main_cst_3
  let main_v13 : FVec F S24x3072 .f32 := mulf main_v12 main_v6
  let main_v14 : FVec F S24x3072x1 .f32 := broadcastInDim S24x3072x1 ![0, 1] bcast_S24x3072_S24x3072x1_0_1 main_v13
  let main_v15 : FVec F S1x1x32 .f32 := broadcastInDim S1x1x32 ![2] bcast_S32_S1x1x32_2 main_v11
  let main_v16 : FVec F S24x3072x32 .f32 := broadcastInDim S24x3072x32 ![0, 1, 2] bcast_S24x3072x1_S24x3072x32_0_1_2 main_v14
  let main_v17 : FVec F S24x3072x32 .f32 := broadcastInDim S24x3072x32 ![0, 1, 2] bcast_S1x1x32_S24x3072x32_0_1_2 main_v15
  let main_v18 : FVec F S24x3072x32 .f32 := mulf main_v16 main_v17
  fn_part1 (F := F) main_v3 main_v6 main_v18
-- ==== Pre_distinct_ids_and_plain_gates.lean ====
abbrev S24x3072x2048 : Shape := ⟨3, ![24, 3072, 2048]⟩
abbrev S24x3072 : Shape := ⟨2, ![24, 3072]⟩
abbrev S2048x128 : Shape := ⟨2, ![2048, 128]⟩
abbrev S24x3072x8 : Shape := ⟨3, ![24, 3072, 8]⟩
abbrev S24x3072x8x1 : Shape := ⟨4, ![24, 3072, 8, 1]⟩
abbrev S24x3072x1x8 : Shape := ⟨4, ![24, 3072, 1, 8]⟩
abbrev S24x3072x8x8 : Shape := ⟨4, ![24, 3072, 8, 8]⟩
abbrev S_ : Shape := ⟨0, ![]⟩

class Facts : Prop where
  bcast_S24x3072x8_S24x3072x8x1_0_1_2 : S24x3072x8.BroadcastsInDim S24x3072x8x1 (![0, 1, 2] : Fin 3 → Fin S24x3072x8x1.rank)
  bcast_S24x3072x8_S24x3072x1x8_0_1_3 : S24x3072x8.BroadcastsInDim S24x3072x1x8 (![0, 1, 3] : Fin 3 → Fin S24x3072x1x8.rank)
  bcast_S24x3072x8x1_S24x3072x8x8_0_1_2_3 : S24x3072x8x1.BroadcastsInDim S24x3072x8x8 (![0, 1, 2, 3] : Fin 4 → Fin S24x3072x8x8.rank)
  bcast_S24x3072x1x8_S24x3072x8x8_0_1_2_3 : S24x3072x1x8.BroadcastsInDim S24x3072x8x8 (![0, 1, 2, 3] : Fin 4 → Fin S24x3072x8x8.rank)
  bitsLt_bf16_f32 : FTy.bits .bf16 < FTy.bits .f32
  bcast_S_S24x3072x8 : S_.BroadcastsInDim S24x3072x8 (![] : Fin 0 → Fin S24x3072x8.rank)

variable [Facts]

def fn {F : FTy → Type} [FloatOps F] (main_arg0 : FVec F S24x3072x2048 .fp8e4m3) (main_arg1 : FVec F S24x3072 .f32) (main_arg2 : FVec F S2048x128 .bf16) (main_arg3 : IVec S24x3072x8 32) (main_arg4 : FVec F S24x3072x8 .bf16) (main_arg5 : FVec F S24x3072x2048 .bf16) : IVec S24x3072x8x8 1 × IVec S24x3072x8 1 :=
  let main_v0 : IVec S24x3072x8x1 32 := broadcastInDim S24x3072x8x1 ![0, 1, 2] bcast_S24x3072x8_S24x3072x8x1_0_1_2 main_arg3
  let main_v1 : IVec S24x3072x1x8 32 := broadcastInDim S24x3072x1x8 ![0, 1, 3] bcast_S24x3072x8_S24x3072x1x8_0_1_3 main_arg3
  let main_v2 : IVec S24x3072x8x8 32 := broadcastInDim S24x3072x8x8 ![0, 1, 2, 3] bcast_S24x3072x8x1_S24x3072x8x8_0_1_2_3 main_v0
  let main_v3 : IVec S24x3072x8x8 32 := broadcastInDim S24x3072x8x8 ![0, 1, 2, 3] bcast_S24x3072x1x8_S24x3072x8x8_0_1_2_3 main_v1
  let main_v4 : IVec S24x3072x8x8 1 := cmpi .eq main_v2 main_v3
  let main_v5 : IVec S24x3072x8x8 32 := iotaInDim S24x3072x8x8 32 2
  let main_v6 : IVec S24x3072x8x8 32 := iotaInDim S24x3072x8x8 32 3
  let main_v7 : IVec S24x3072x8x8 1 := noti main_v4
  let main_v8 : IVec S24x3072x8x8 1 := cmpi .eq main_v5 main_v6
  let main_v9 : IVec S24x3072x8x8 1 := ori main_v7 main_v8
  let main_v10 : FVec F S24x3072x8 .f32 := (extf .f32 · bitsLt_bf16_f32) main_arg4
  let main_cst : FVec F S_ .f32 := constant S_ .f32 0x3F9E0651#32
  let main_v11 : FVec F S24x3072x8 .f32 := broadcastInDim S24x3072x8 ![] bcast_S_S24x3072x8 main_cst
  let main_v12 : IVec S24x3072x8 1 := cmpf .une main_v10 main_v11
  (main_v9, main_v12)
-- ==== Kernel.lean ====
abbrev S24x3072x2048 : Shape := ⟨3, ![24, 3072, 2048]⟩
abbrev S24x3072 : Shape := ⟨2, ![24, 3072]⟩
abbrev S2048x128 : Shape := ⟨2, ![2048, 128]⟩
abbrev S24x3072x8 : Shape := ⟨3, ![24, 3072, 8]⟩
abbrev S24x8x3072 : Shape := ⟨3, ![24, 8, 3072]⟩
abbrev S24x3072x128 : Shape := ⟨3, ![24, 3072, 128]⟩
abbrev S24x32x3072 : Shape := ⟨3, ![24, 32, 3072]⟩
abbrev S24x512 : Shape := ⟨2, ![24, 512]⟩
abbrev S1x512x2048 : Shape := ⟨3, ![1, 512, 2048]⟩
abbrev S1x8x512 : Shape := ⟨3, ![1, 8, 512]⟩
abbrev S1x512x128 : Shape := ⟨3, ![1, 512, 128]⟩
abbrev S1x32x512 : Shape := ⟨3, ![1, 32, 512]⟩
abbrev S128x2048 : Shape := ⟨2, ![128, 2048]⟩
abbrev S512x2048 : Shape := ⟨2, ![512, 2048]⟩
abbrev S128x512 : Shape := ⟨2, ![128, 512]⟩
abbrev S1x512 : Shape := ⟨2, ![1, 512]⟩
abbrev S8x512 : Shape := ⟨2, ![8, 512]⟩
abbrev S1x1x512 : Shape := ⟨3, ![1, 1, 512]⟩
abbrev S512 : Shape := ⟨1, ![512]⟩
abbrev S512x128 : Shape := ⟨2, ![512, 128]⟩
abbrev S128x256 : Shape := ⟨2, ![128, 256]⟩
abbrev S512x256 : Shape := ⟨2, ![512, 256]⟩
abbrev S1x512x256 : Shape := ⟨3, ![1, 512, 256]⟩
abbrev S128x128 : Shape := ⟨2, ![128, 128]⟩
abbrev S256x128 : Shape := ⟨2, ![256, 128]⟩
abbrev S16x128 : Shape := ⟨2, ![16, 128]⟩
abbrev S8x128 : Shape := ⟨2, ![8, 128]⟩
abbrev S1x128 : Shape := ⟨2, ![1, 128]⟩
abbrev S32x128 : Shape := ⟨2, ![32, 128]⟩
abbrev S1x32x128 : Shape := ⟨3, ![1, 32, 128]⟩
abbrev S64x128 : Shape := ⟨2, ![64, 128]⟩
abbrev S1x128x128 : Shape := ⟨3, ![1, 128, 128]⟩

abbrev nBuf : Space → Nat
  | .hbm => 13
  | .vmem => 23
  | .smem => 0
  | _ => 0

abbrev bufTy : (tb : Table) → Fin (tcTables nBuf tb) → BufTy
  | .hbm, ⟨0, _⟩ => ⟨S24x3072x2048, .fp8e4m3⟩
  | .hbm, ⟨1, _⟩ => ⟨S24x3072, .f32⟩
  | .hbm, ⟨2, _⟩ => ⟨S2048x128, .bf16⟩
  | .hbm, ⟨3, _⟩ => ⟨S24x3072x8, .i32⟩
  | .hbm, ⟨4, _⟩ => ⟨S24x3072x8, .bf16⟩
  | .hbm, ⟨5, _⟩ => ⟨S24x3072x2048, .bf16⟩
  | .hbm, ⟨6, _⟩ => ⟨S24x8x3072, .i32⟩
  | .hbm, ⟨7, _⟩ => ⟨S24x8x3072, .bf16⟩
  | .hbm, ⟨8, _⟩ => ⟨S24x3072x2048, .bf16⟩
  | .hbm, ⟨9, _⟩ => ⟨S2048x128, .f32⟩
  | .hbm, ⟨10, _⟩ => ⟨S24x3072x128, .f32⟩
  | .hbm, ⟨11, _⟩ => ⟨S24x3072x2048, .fp8e4m3⟩
  | .hbm, ⟨12, _⟩ => ⟨S24x32x3072, .f32⟩
  | .local _ .vmem, ⟨0, _⟩ => ⟨S24x512, .f32⟩
  | .local _ .vmem, ⟨1, _⟩ => ⟨S24x512, .f32⟩
  | .local _ .vmem, ⟨2, _⟩ => ⟨S1x512x2048, .fp8e4m3⟩
  | .local _ .vmem, ⟨3, _⟩ => ⟨S1x512x2048, .fp8e4m3⟩
  | .local _ .vmem, ⟨4, _⟩ => ⟨S2048x128, .bf16⟩
  | .local _ .vmem, ⟨5, _⟩ => ⟨S1x8x512, .i32⟩
  | .local _ .vmem, ⟨6, _⟩ => ⟨S1x8x512, .i32⟩
  | .local _ .vmem, ⟨7, _⟩ => ⟨S1x8x512, .bf16⟩
  | .local _ .vmem, ⟨8, _⟩ => ⟨S1x8x512, .bf16⟩
  | .local _ .vmem, ⟨9, _⟩ => ⟨S1x512x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x512x2048, .bf16⟩
  | .local _ .vmem, ⟨13, _⟩ => ⟨S2048x128, .f32⟩
  | .local _ .vmem, ⟨14, _⟩ => ⟨S1x512x128, .f32⟩
  | .local _ .vmem, ⟨15, _⟩ => ⟨S1x512x128, .f32⟩
  | .local _ .vmem, ⟨16, _⟩ => ⟨S1x512x2048, .fp8e4m3⟩
  | .local _ .vmem, ⟨17, _⟩ => ⟨S1x512x2048, .fp8e4m3⟩
  | .local _ .vmem, ⟨18, _⟩ => ⟨S1x32x512, .f32⟩
  | .local _ .vmem, ⟨19, _⟩ => ⟨S1x32x512, .f32⟩
  | .local _ .vmem, ⟨20, _⟩ => ⟨S128x2048, .bf16⟩
  | .local _ .vmem, ⟨21, _⟩ => ⟨S128x2048, .f32⟩
  | .local _ .vmem, ⟨22, _⟩ => ⟨S512x2048, .f32⟩
  | _, _ => ⟨S24x3072x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [BitOps F]

abbrev grid0 : Pipeline.Grid := ⟨2, ![6, 24], ![false, false]⟩

def k0_off1 (i : grid0.Coords) : Fin 2 → Nat :=
  let arg1 : BitVec 32 := BitVec.ofNat 32 (i 1).val
  let v12 : Index := Scalar.indexCast arg1
  let c0_6 : Index := 0#32
  ![v12.toNat, 0]
@[reducible] def k0_t1_loop : Scf.Loop 32 :=
  let c1_i32_272 : BitVec 32 := 1#32
  let c255_i32 : BitVec 32 := 255#32
  let v1357 : BitVec 32 := Scalar.addi c1_i32_272 c255_i32
  let c1_i32_273 : BitVec 32 := 1#32
  ⟨c1_i32_272, v1357, c1_i32_273⟩
@[reducible] def k0_t2_loop : Scf.Loop 32 :=
  let c1_i32_279 : BitVec 32 := 1#32
  let c255_i32_280 : BitVec 32 := 255#32
  let v1376 : BitVec 32 := Scalar.addi c1_i32_279 c255_i32_280
  let c1_i32_281 : BitVec 32 := 1#32
  ⟨c1_i32_279, v1376, c1_i32_281⟩
@[reducible] def k0_t3_loop : Scf.Loop 32 :=
  let c1_i32_714 : BitVec 32 := 1#32
  let c255_i32_715 : BitVec 32 := 255#32
  let v3069 : BitVec 32 := Scalar.addi c1_i32_714 c255_i32_715
  let c1_i32_716 : BitVec 32 := 1#32
  ⟨c1_i32_714, v3069, c1_i32_716⟩
@[reducible] def k0_t4_loop : Scf.Loop 32 :=
  let c1_i32_726 : BitVec 32 := 1#32
  let c255_i32_727 : BitVec 32 := 255#32
  let v3088 : BitVec 32 := Scalar.addi c1_i32_726 c255_i32_727
  let c1_i32_728 : BitVec 32 := 1#32
  ⟨c1_i32_726, v3088, c1_i32_728⟩
def k0_cond2 (i : grid0.Coords) : BitVec 1 :=
  let arg0 : BitVec 32 := BitVec.ofNat 32 (i 0).val
  let c5_i32 : BitVec 32 := 5#32
  let v3 : BitVec 1 := Scalar.cmpi .eq arg0 c5_i32
  let arg1 : BitVec 32 := BitVec.ofNat 32 (i 1).val
  let c23_i32 : BitVec 32 := 23#32
  let v4 : BitVec 1 := Scalar.cmpi .eq arg1 c23_i32
  let v5 : BitVec 1 := Scalar.andi v3 v4
  let v3656 : BitVec 32 := Scalar.extui v5
  let c0_i32_999 : BitVec 32 := 0#32
  let v3657 : BitVec 1 := Scalar.cmpi .ne v3656 c0_i32_999
  v3657

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S24x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F]
-- ==== ReferenceIdeal.lean ====
abbrev S24x3072x2048 : Shape := ⟨3, ![24, 3072, 2048]⟩
abbrev S24x3072 : Shape := ⟨2, ![24, 3072]⟩
abbrev S2048x128 : Shape := ⟨2, ![2048, 128]⟩
abbrev S24x3072x8 : Shape := ⟨3, ![24, 3072, 8]⟩
abbrev S24x3072x128 : Shape := ⟨3, ![24, 3072, 128]⟩
abbrev S24x32x3072 : Shape := ⟨3, ![24, 32, 3072]⟩
abbrev S24x3072x1 : Shape := ⟨3, ![24, 3072, 1]⟩
abbrev S1x1x1x128 : Shape := ⟨4, ![1, 1, 1, 128]⟩
abbrev S24x3072x8x1 : Shape := ⟨4, ![24, 3072, 8, 1]⟩
abbrev S24x3072x8x128 : Shape := ⟨4, ![24, 3072, 8, 128]⟩
abbrev S24x3072x1x128 : Shape := ⟨4, ![24, 3072, 1, 128]⟩
abbrev S1x1x128 : Shape := ⟨3, ![1, 1, 128]⟩
abbrev S73728x2048 : Shape := ⟨2, ![73728, 2048]⟩
abbrev S73728x128 : Shape := ⟨2, ![73728, 128]⟩
abbrev S24x3072x32x64 : Shape := ⟨4, ![24, 3072, 32, 64]⟩
abbrev S24x3072x32 : Shape := ⟨3, ![24, 3072, 32]⟩
abbrev S24x3072x32x1 : Shape := ⟨4, ![24, 3072, 32, 1]⟩

abbrev nBuf : Space → Nat
  | .hbm => 11
  | .vmem => 11
  | .smem => 0
  | _ => 0

abbrev bufTy : (tb : Table) → Fin (tcTables nBuf tb) → BufTy
  | .hbm, ⟨0, _⟩ => ⟨S24x3072x2048, .fp8e4m3⟩
  | .hbm, ⟨1, _⟩ => ⟨S24x3072, .f32⟩
  | .hbm, ⟨2, _⟩ => ⟨S2048x128, .bf16⟩
  | .hbm, ⟨3, _⟩ => ⟨S24x3072x8, .i32⟩
  | .hbm, ⟨4, _⟩ => ⟨S24x3072x8, .bf16⟩
  | .hbm, ⟨5, _⟩ => ⟨S24x3072x2048, .bf16⟩
  | .hbm, ⟨6, _⟩ => ⟨S24x3072x2048, .bf16⟩
  | .hbm, ⟨7, _⟩ => ⟨S2048x128, .f32⟩
  | .hbm, ⟨8, _⟩ => ⟨S24x3072x128, .f32⟩
  | .hbm, ⟨9, _⟩ => ⟨S24x3072x2048, .fp8e4m3⟩
  | .hbm, ⟨10, _⟩ => ⟨S24x32x3072, .f32⟩
  | .local _ .vmem, ⟨0, _⟩ => ⟨S24x3072x2048, .fp8e4m3⟩
  | .local _ .vmem, ⟨1, _⟩ => ⟨S24x3072, .f32⟩
  | .local _ .vmem, ⟨2, _⟩ => ⟨S2048x128, .bf16⟩
  | .local _ .vmem, ⟨3, _⟩ => ⟨S24x3072x8, .i32⟩
  | .local _ .vmem, ⟨4, _⟩ => ⟨S24x3072x8, .bf16⟩
  | .local _ .vmem, ⟨5, _⟩ => ⟨S24x3072x2048, .bf16⟩
  | .local _ .vmem, ⟨6, _⟩ => ⟨S24x3072x2048, .bf16⟩
  | .local _ .vmem, ⟨7, _⟩ => ⟨S2048x128, .f32⟩
  | .local _ .vmem, ⟨8, _⟩ => ⟨S24x3072x128, .f32⟩
  | .local _ .vmem, ⟨9, _⟩ => ⟨S24x3072x2048, .fp8e4m3⟩
  | .local _ .vmem, ⟨10, _⟩ => ⟨S24x32x3072, .f32⟩
  | _, _ => ⟨S24x3072x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c_m149_i32 : BitVec 32 := 4294967147#32
  let c277_i32 : BitVec 32 := 277#32
  let v129 : BitVec 32 := Scalar.addi c_m149_i32 c277_i32
  let c1_i32 : BitVec 32 := 1#32
  ⟨c_m149_i32, v129, c1_i32⟩
abbrev stage0_0 : Fin 1 → Memref sig .tc .vmem S24x3072x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x3072x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x3072x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x3072x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x3072x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x3072x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x3072x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x32x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Body.lean ====
module

public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

noncomputable section

namespace Cert.Proof

open Idealize.ShloMosaic Cert.KernelIdeal Cert.KernelIdeal.Gen

/-! What each grid point stores, as the payloads of its inputs. The three kinds of point are the first (`A`), the
    middle ones (`B`) and the last (`C`). -/

variable {F : FTy → Type} [FloatOps F]

/-- The row of the scale block that the point's batch names. -/
def RowOk (i : grid0.Coords) : Prop :=
  ∀ a, (![BitVec.toNat (Scalar.indexCast (BitVec.ofNat 32 (i 1).val)), 0] : Fin 2 → Nat) a + (![1, 512] : Fin 2 → Nat) a ≤ S24x512.size a

/-- That row, read from the block of scales. -/
def rowOf (i : grid0.Coords) (h : RowOk i) (x0 : Vec F S24x512 .f32) : Vec F S1x512 .f32 :=
  View.ld x0 (Rect.unit ![BitVec.toNat (Scalar.indexCast (BitVec.ofNat 32 (i 1).val)), 0] ![1, 512] h)

/-- Row `j` of the block of expert ids. -/
def idRow (j : Nat) (h : ∀ a, (![0, j, 0] : Fin 3 → Nat) a + (![1, 1, 512] : Fin 3 → Nat) a ≤ S1x8x512.size a)
    (x3 : Vec F S1x8x512 .i32) : Vec F S1x1x512 .i32 :=
  View.ld x3 (Rect.unit ![0, j, 0] ![1, 1, 512] h)

/-- The block of gradients scattered to the selected experts, first seven slots. -/
def chain (x3 : Vec F S1x8x512 .i32) (x4 : Vec F S1x8x512 .bf16) : FVec F S128x512 .f32 :=
  k0_pay12 (k0_pay7 x4) (iota .tc S128x512 32 [0] iota_S128x512_d0_w32) (k0_pay9 x4 (idRow 0 (by decide) x3))
    (k0_pay10 (F := F) (idRow 1 (by decide) x3)) (k0_pay11 x4) (idRow 2 (by decide) x3) (idRow 3 (by decide) x3)
    (idRow 4 (by decide) x3) (idRow 5 (by decide) x3) (idRow 6 (by decide) x3)

/-- The gradient of the logits of one block of tokens, expert by token. -/
def blockGrad (row : Vec F S1x512 .f32) (x1 : Vec F S1x512x2048 .fp8e4m3) (x3 : Vec F S1x8x512 .i32) (x4 : Vec F S1x8x512 .bf16)
    (wt : Vec F S128x2048 .bf16) : FVec F S128x512 .f32 :=
  k0_pay13 (k0_pay6 x1 wt row) (k0_pay7 x4) k0_pay8 (iota .tc S128x512 32 [0] iota_S128x512_d0_w32) (chain x3 x4)
    (idRow 7 (by decide) x3)

/-- The same gradient, token by expert. -/
def blockGradT (row : Vec F S1x512 .f32) (x1 : Vec F S1x512x2048 .fp8e4m3) (x3 : Vec F S1x8x512 .i32) (x4 : Vec F S1x8x512 .bf16)
    (wt : Vec F S128x2048 .bf16) : FVec F S512x128 .f32 :=
  k0_pay15 (k0_pay6 x1 wt row) (k0_pay7 x4) k0_pay8 (iota .tc S128x512 32 [0] iota_S128x512_d0_w32) (chain x3 x4)
    (idRow 7 (by decide) x3)

/-- What one block of tokens adds to the gradient of the weights, added to what was there. -/
def blockAcc (row : Vec F S1x512 .f32) (x1 : Vec F S1x512x2048 .fp8e4m3) (x3 : Vec F S1x8x512 .i32) (x4 : Vec F S1x8x512 .bf16)
    (wt : Vec F S128x2048 .bf16) (acc : Vec F S128x2048 .f32) : FVec F S128x2048 .f32 :=
  k0_pay14 (k0_pay5 x1) row (k0_pay6 x1 wt row) (k0_pay7 x4) k0_pay8 (iota .tc S128x512 32 [0] iota_S128x512_d0_w32)
    (chain x3 x4) (idRow 7 (by decide) x3) acc

variable (c : Dev nD) (i : grid0.Coords) (arg2 : Memref sig .tc .vmem S24x512 .f32) (harg2 : arg2.IsWhole) (arg3 : Memref sig .tc .vmem S1x512x2048 .fp8e4m3) (harg3 : arg3.IsWhole) (arg4 : Memref sig .tc .vmem S2048x128 .bf16) (harg4 : arg4.IsWhole) (arg5 : Memref sig .tc .vmem S1x8x512 .i32) (harg5 : arg5.IsWhole) (arg6 : Memref sig .tc .vmem S1x8x512 .bf16) (harg6 : arg6.IsWhole) (arg7 : Memref sig .tc .vmem S1x512x2048 .bf16) (harg7 : arg7.IsWhole) (arg8 : Memref sig .tc .vmem S1x512x2048 .bf16) (harg8 : arg8.IsWhole) (arg9 : Memref sig .tc .vmem S2048x128 .f32) (harg9 : arg9.IsWhole) (arg10 : Memref sig .tc .vmem S1x512x128 .f32) (harg10 : arg10.IsWhole) (arg11 : Memref sig .tc .vmem S1x512x2048 .fp8e4m3) (harg11 : arg11.IsWhole) (arg12 : Memref sig .tc .vmem S1x32x512 .f32) (harg12 : arg12.IsWhole) (arg13 : Memref sig .tc .vmem S128x2048 .bf16) (harg13 : arg13.IsWhole) (arg14 : Memref sig .tc .vmem S128x2048 .f32) (harg14 : arg14.IsWhole) (arg15 : Memref sig .tc .vmem S512x2048 .f32) (harg15 : arg15.IsWhole)
  (x0 : Vec F S24x512 .f32) (x1 : Vec F S1x512x2048 .fp8e4m3) (x2 : Vec F S2048x128 .bf16) (x3 : Vec F S1x8x512 .i32) (x4 : Vec F S1x8x512 .bf16) (x5 : Vec F S1x512x2048 .bf16)

/-- At the first point, the block of logit gradients. -/
theorem out0_A_8_eq (hc0 : cond0_0 i) (hc1 : ¬cond0_1 i) (h : RowOk i) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = k0_pay16 (blockGradT (rowOf i h x0) x1 x3 x4 (k0_pay3 x2)) := by
  frame_open
  simp (disch := decide) only [↓ View.readCov_skip, ↓ View.readCov_cons_toLoadRect, ↓ View.readCov_fill]
  frame_out
  rfl

/-- The first point adds its block to zeros. -/
theorem sout0_A_1_eq (hc0 : cond0_0 i) (hc1 : ¬cond0_1 i) (h : RowOk i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = blockAcc (rowOf i h x0) x1 x3 x4 (k0_pay3 x2) k0_pay4 := by
  frame_open
  simp (disch := decide) only [↓ View.readCov_skip, ↓ View.readCov_cons_toLoadRect, ↓ View.readCov_fill]
  frame_out
  rfl

/-- The first point leaves the transposed weights in the first scratch. -/
theorem sout0_A_0_eq (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = k0_pay3 x2 := by
  frame_out

/-- At a middle point, the block of logit gradients. -/
theorem out0_B_8_eq (hc0 : ¬cond0_0 i) (hc1 : ¬cond0_1 i) (xs0 : Vec F S128x2048 .bf16) (xs1 : Vec F S128x2048 .f32) (h : RowOk i) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 = k0_pay16 (blockGradT (rowOf i h x0) x1 x3 x4 xs0) := by
  frame_open
  simp (disch := decide) only [↓ View.readCov_skip, ↓ View.readCov_cons_toLoadRect, ↓ View.readCov_fill]
  frame_out
  rfl

/-- A middle point adds its block to the running sum. -/
theorem sout0_B_1_eq (hc0 : ¬cond0_0 i) (hc1 : ¬cond0_1 i) (xs0 : Vec F S128x2048 .bf16) (xs1 : Vec F S128x2048 .f32) (h : RowOk i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 = blockAcc (rowOf i h x0) x1 x3 x4 xs0 xs1 := by
  frame_open
  simp (disch := decide) only [↓ View.readCov_skip, ↓ View.readCov_cons_toLoadRect, ↓ View.readCov_fill]
  frame_out
  rfl

/-- A middle point leaves the first scratch as it was. -/
theorem sout0_B_0_eq (hc0 : ¬cond0_0 i) (hc1 : ¬cond0_1 i) (xs0 : Vec F S128x2048 .bf16) (xs1 : Vec F S128x2048 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 = xs0 := by
  rfl

/-- At the last point, the block of logit gradients. -/
theorem out0_C_8_eq (hc0 : ¬cond0_0 i) (hc1 : cond0_1 i) (xs0 : Vec F S128x2048 .bf16) (xs1 : Vec F S128x2048 .f32) (h : RowOk i) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 = k0_pay16 (blockGradT (rowOf i h x0) x1 x3 x4 xs0) := by
  frame_open
  simp (disch := decide) only [↓ View.readCov_skip, ↓ View.readCov_cons_toLoadRect, ↓ View.readCov_fill]
  frame_out
  rfl

/-- The last point adds its block to the running sum. -/
theorem sout0_C_1_eq (hc0 : ¬cond0_0 i) (hc1 : cond0_1 i) (xs0 : Vec F S128x2048 .bf16) (xs1 : Vec F S128x2048 .f32) (h : RowOk i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 = blockAcc (rowOf i h x0) x1 x3 x4 xs0 xs1 := by
  frame_open
  simp (disch := decide) only [↓ View.readCov_skip, ↓ View.readCov_cons_toLoadRect, ↓ View.readCov_fill]
  frame_out
  rfl

/-- The last point leaves the first scratch as it was. -/
theorem sout0_C_0_eq (hc0 : ¬cond0_0 i) (hc1 : cond0_1 i) (xs0 : Vec F S128x2048 .bf16) (xs1 : Vec F S128x2048 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 = xs0 := by
  rfl

/-- The last point stores the sum, transposed. -/
theorem out0_C_7_eq (hc0 : ¬cond0_0 i) (hc1 : cond0_1 i) (xs0 : Vec F S128x2048 .bf16) (xs1 : Vec F S128x2048 .f32) (h : RowOk i) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 = k0_pay2 (blockAcc (rowOf i h x0) x1 x3 x4 xs0 xs1) := by
  frame_open
  simp (disch := decide) only [↓ View.readCov_skip, ↓ View.readCov_cons_toLoadRect, ↓ View.readCov_fill]
  frame_out
  rfl

end Cert.Proof

end
-- ==== Proof.RouterMath.lean ====
module

public import Idealize.ShloMosaic.PureOps.Ideal
public import Idealize.ShloMosaic.Lib.IdealHost
public import Mathlib.Data.EReal.Operations
public import Mathlib.Algebra.BigOperators.Ring.Finset

@[expose] public section

noncomputable section

/-! The router of one token, in two forms: over all 128 experts (the kernel's) and over the 8 chosen
    slots (the reference's). `kgrad_eq` says that they give every expert the same gradient. -/

namespace Cert.Proof

open Idealize.ShloMosaic
open scoped BigOperators

/-- The id an expert is known by. -/
def eid (e : Fin 128) : BitVec 32 := BitVec.ofNat 32 e.val

/-- Distinct experts have distinct ids. -/
theorem eid_inj {e f : Fin 128} (h : eid e = eid f) : e = f := by
  have := congrArg BitVec.toNat h
  simp only [eid, BitVec.toNat_ofNat] at this
  apply Fin.ext
  omega

/-- The value the last slot choosing the id `x` carries, `z` when none does. -/
def pick {α : Type} (ids : Fin 8 → BitVec 32) (v : Fin 8 → α) (z : α) (x : BitVec 32) : α :=
  if ids 7 = x then v 7 else if ids 6 = x then v 6 else if ids 5 = x then v 5 else if ids 4 = x then v 4
  else if ids 3 = x then v 3 else if ids 2 = x then v 2 else if ids 1 = x then v 1 else if ids 0 = x then v 0 else z

/-- With no two slots choosing one id, the slot choosing `x` is the one picked. -/
theorem pick_hit {α : Type} (ids : Fin 8 → BitVec 32) (hd : ∀ i j, ids i = ids j → i = j) (v : Fin 8 → α) (z : α) (j : Fin 8) :
    pick ids v z (ids j) = v j := by
  have hne : ∀ i, i ≠ j → ids i ≠ ids j := fun i hi h => hi (hd i j h)
  unfold pick
  fin_cases j <;> simp_all

/-- An id no slot chooses picks the default. -/
theorem pick_miss {α : Type} (ids : Fin 8 → BitVec 32) (v : Fin 8 → α) (z : α) (x : BitVec 32) (h : ∀ j, ids j ≠ x) :
    pick ids v z x = z := by
  unfold pick
  simp [h]

/-! ### The kernel's form -/

section Kernel
variable (ids : Fin 8 → BitVec 32) (dg : Fin 8 → EReal) (sent : EReal) (lg : Fin 128 → EReal)

/-- The gate gradient scattered to expert `e`, `sent` where no slot chose it. -/
def kd (e : Fin 128) : EReal := pick ids dg sent (eid e)
/-- The logits of the chosen experts, `⊥` elsewhere. -/
def kl (e : Fin 128) : EReal := if kd ids dg sent e ≠ sent then lg e else ⊥
/-- The largest chosen logit. -/
def km : EReal := Finset.univ.fold max ⊥ (kl ids dg sent lg)
/-- The unnormalised gates. -/
def kp (e : Fin 128) : EReal := Ideal.exp (kl ids dg sent lg e - km ids dg sent lg)
/-- The gates. -/
def kg (e : Fin 128) : EReal := kp ids dg sent lg e * Ideal.div 1 (∑ f, kp ids dg sent lg f)
/-- The gate gradient, zero where no slot chose the expert. -/
def kz (e : Fin 128) : EReal := if kd ids dg sent e ≠ sent then kd ids dg sent e else 0
/-- The gradient of the logit of expert `e`. -/
def kgrad (e : Fin 128) : EReal :=
  kg ids dg sent lg e * (kz ids dg sent e - ∑ f, kg ids dg sent lg f * kz ids dg sent f)

end Kernel

/-! ### The reference's form -/

section Ref
variable (ids : Fin 8 → BitVec 32) (dg : Fin 8 → EReal) (lg : Fin 128 → EReal)

/-- The logit slot `j` selects. -/
def rl (j : Fin 8) : EReal := Finset.univ.fold max ⊥ fun e : Fin 128 => if ids j = eid e then lg e else ⊥
/-- The largest selected logit. -/
def rm : EReal := Finset.univ.fold max ⊥ (rl ids lg)
/-- The unnormalised gates. -/
def rp (j : Fin 8) : EReal := Ideal.exp (rl ids lg j - rm ids lg)
/-- Their sum. -/
def rs : EReal := ∑ j, rp ids lg j
/-- The gates. -/
def rg (j : Fin 8) : EReal := Ideal.div (rp ids lg j) (if rs ids lg = 0 then 1 else rs ids lg)
/-- The gradient of the selected logit of slot `j`. -/
def rsel (j : Fin 8) : EReal := rg ids lg j * (dg j - ∑ k, rg ids lg k * dg k)
/-- The gradient of the logit of expert `e`. -/
def rgrad (e : Fin 128) : EReal := pick ids (rsel ids dg lg) 0 (eid e)

end Ref

/-! ### They agree -/

/-- A fold of `max` from `⊥` is a supremum. -/
theorem fold_max_sup {n : ℕ} (f : Fin n → EReal) : Finset.univ.fold max ⊥ f = Finset.univ.sup f := rfl

/-- The exponential is nowhere negative. -/
theorem exp_nonneg (x : EReal) : 0 ≤ Ideal.exp x := by
  induction x using EReal.rec with
  | bot => exact le_refl _
  | top => exact le_top
  | coe r =>
    show (0 : EReal) ≤ ((Real.exp r : ℝ) : EReal)
    exact_mod_cast (Real.exp_pos r).le

/-- A sum over the experts of terms that vanish off the chosen ones is the sum over the slots. -/
theorem sum_route (ids : Fin 8 → BitVec 32) (hd : ∀ i j, ids i = ids j → i = j) (A : Fin 128 → EReal) (B : Fin 8 → EReal)
    (hit : ∀ j e, ids j = eid e → A e = B j) (miss : ∀ e, (∀ j, ids j ≠ eid e) → A e = 0)
    (out : ∀ j, (∀ e, ids j ≠ eid e) → B j = 0) : ∑ e, A e = ∑ j, B j := by
  have h1 : ∀ e, A e = ∑ j, if ids j = eid e then B j else 0 := by
    intro e
    by_cases h : ∃ j, ids j = eid e
    · obtain ⟨j, hj⟩ := h
      rw [Finset.sum_eq_single j, if_pos hj, hit j e hj]
      · intro i _ hi
        exact if_neg fun h => hi (hd i j (h.trans hj.symm))
      · intro h; exact absurd (Finset.mem_univ _) h
    · push Not at h
      rw [miss e h]
      exact (Finset.sum_eq_zero fun j _ => if_neg (h j)).symm
  simp only [h1]
  rw [Finset.sum_comm]
  refine Finset.sum_congr rfl fun j _ => ?_
  by_cases h : ∃ e, ids j = eid e
  · obtain ⟨e, he⟩ := h
    rw [Finset.sum_eq_single e, if_pos he]
    · intro f _ hf
      exact if_neg fun h => hf (eid_inj (h.symm.trans he))
    · intro h; exact absurd (Finset.mem_univ _) h
  · push Not at h
    rw [out j h]
    exact Finset.sum_eq_zero fun e _ => if_neg (h e)

/-- Dividing by a sum of nonnegative terms is multiplying by its reciprocal, when a zero sum is read as one in the
    division: the terms of a zero sum are all zero. -/
theorem recip_eq_div (p S : EReal) (h : S = 0 → p = 0) : p * Ideal.div 1 S = Ideal.div p (if S = 0 then 1 else S) := by
  by_cases hS : S = 0
  · simp [hS, h hS, Ideal.div]
  · simp [hS, Ideal.div]

section Agree
variable (ids : Fin 8 → BitVec 32) (dg : Fin 8 → EReal) (sent : EReal) (lg : Fin 128 → EReal)
variable (hd : ∀ i j, ids i = ids j → i = j) (hs : ∀ j, dg j ≠ sent)
include hd hs

/-- At the expert that slot `j` chose the scattered gate gradient is the slot's. -/
theorem kd_hit (j : Fin 8) (e : Fin 128) (h : ids j = eid e) : kd ids dg sent e = dg j := by
  unfold kd; rw [← h]; exact pick_hit ids hd dg sent j

omit hd hs in
/-- At an expert that no slot chose it is the mark. -/
theorem kd_miss (e : Fin 128) (h : ∀ j, ids j ≠ eid e) : kd ids dg sent e = sent := pick_miss _ _ _ _ h

/-- The kernel keeps the logit of a chosen expert. -/
theorem kl_hit (j : Fin 8) (e : Fin 128) (h : ids j = eid e) : kl ids dg sent lg e = lg e := by
  unfold kl; rw [kd_hit ids dg sent hd hs j e h]; exact if_pos (hs j)

omit hd hs in
/-- It drops the logit of an expert not chosen. -/
theorem kl_miss (e : Fin 128) (h : ∀ j, ids j ≠ eid e) : kl ids dg sent lg e = ⊥ := by
  unfold kl; rw [kd_miss ids dg sent e h]; simp

omit hd hs in
/-- The reference gathers the logit of the expert that slot `j` chose. -/
theorem rl_hit (j : Fin 8) (e : Fin 128) (h : ids j = eid e) : rl ids lg j = lg e := by
  unfold rl
  rw [fold_max_sup]
  apply le_antisymm
  · refine Finset.sup_le fun f _ => ?_
    by_cases hf : ids j = eid f
    · rw [if_pos hf, eid_inj (h.symm.trans hf)]
    · rw [if_neg hf]; exact bot_le
  · have := Finset.le_sup (f := fun e : Fin 128 => if ids j = eid e then lg e else ⊥) (Finset.mem_univ e)
    simpa only [if_pos h] using this

omit hd hs in
/-- A slot whose id is no expert's gathers nothing. -/
theorem rl_out (j : Fin 8) (h : ∀ e, ids j ≠ eid e) : rl ids lg j = ⊥ := by
  unfold rl
  rw [fold_max_sup]
  exact (Finset.sup_eq_bot_iff _ _).2 fun e _ => if_neg (h e)

/-- The largest chosen logit is one in both forms. -/
theorem km_eq : km ids dg sent lg = rm ids lg := by
  unfold km rm
  rw [fold_max_sup, fold_max_sup]
  apply le_antisymm
  · refine Finset.sup_le fun e _ => ?_
    by_cases h : ∃ j, ids j = eid e
    · obtain ⟨j, hj⟩ := h
      rw [kl_hit ids dg sent lg hd hs j e hj, ← rl_hit ids lg j e hj]
      exact Finset.le_sup (Finset.mem_univ j)
    · push Not at h
      rw [kl_miss ids dg sent lg e h]; exact bot_le
  · refine Finset.sup_le fun j _ => ?_
    by_cases h : ∃ e, ids j = eid e
    · obtain ⟨e, he⟩ := h
      rw [rl_hit ids lg j e he, ← kl_hit ids dg sent lg hd hs j e he]
      exact Finset.le_sup (Finset.mem_univ e)
    · push Not at h
      rw [rl_out ids lg j h]; exact bot_le

omit hd hs in
/-- An expert with no logit gets no weight, whatever the maximum. -/
theorem exp_bot_sub (x : EReal) : Ideal.exp (⊥ - x) = 0 := by
  rw [sub_eq_add_neg, EReal.bot_add]; rfl

/-- The unnormalised gate of a chosen expert is its slot's. -/
theorem kp_hit (j : Fin 8) (e : Fin 128) (h : ids j = eid e) : kp ids dg sent lg e = rp ids lg j := by
  unfold kp rp
  rw [kl_hit ids dg sent lg hd hs j e h, km_eq ids dg sent lg hd hs, rl_hit ids lg j e h]

omit hd hs in
/-- An expert not chosen has the unnormalised gate zero. -/
theorem kp_miss (e : Fin 128) (h : ∀ j, ids j ≠ eid e) : kp ids dg sent lg e = 0 := by
  unfold kp; rw [kl_miss ids dg sent lg e h]; exact exp_bot_sub _

omit hd hs in
/-- So has a slot whose id is no expert's. -/
theorem rp_out (j : Fin 8) (h : ∀ e, ids j ≠ eid e) : rp ids lg j = 0 := by
  unfold rp; rw [rl_out ids lg j h]; exact exp_bot_sub _

/-- The unnormalised gates have one sum in both forms. -/
theorem ksum_eq : ∑ e, kp ids dg sent lg e = rs ids lg :=
  sum_route ids hd _ _ (kp_hit ids dg sent lg hd hs) (kp_miss ids dg sent lg) (rp_out ids lg)

/-- The gate of a chosen expert is its slot's. -/
theorem kg_hit (j : Fin 8) (e : Fin 128) (h : ids j = eid e) : kg ids dg sent lg e = rg ids lg j := by
  unfold kg rg
  rw [ksum_eq ids dg sent lg hd hs, kp_hit ids dg sent lg hd hs j e h]
  refine recip_eq_div _ _ fun h0 => ?_
  exact (Finset.sum_eq_zero_iff_of_nonneg fun i _ => exp_nonneg _).1 h0 j (Finset.mem_univ j)

omit hd hs in
/-- An expert not chosen has the gate zero. -/
theorem kg_miss (e : Fin 128) (h : ∀ j, ids j ≠ eid e) : kg ids dg sent lg e = 0 := by
  unfold kg; rw [kp_miss ids dg sent lg e h, zero_mul]

omit hd hs in
/-- So has a slot whose id is no expert's. -/
theorem rg_out (j : Fin 8) (h : ∀ e, ids j ≠ eid e) : rg ids lg j = 0 := by
  unfold rg; rw [rp_out ids lg j h]
  by_cases hS : rs ids lg = 0 <;> simp [hS, Ideal.div]

/-- At a chosen expert the zero-filled gate gradient is its slot's. -/
theorem kz_hit (j : Fin 8) (e : Fin 128) (h : ids j = eid e) : kz ids dg sent e = dg j := by
  unfold kz; rw [kd_hit ids dg sent hd hs j e h]; exact if_pos (hs j)

/-- The products of gates and gate gradients have one sum in both forms. -/
theorem kdot_eq : ∑ f, kg ids dg sent lg f * kz ids dg sent f = ∑ k, rg ids lg k * dg k :=
  sum_route ids hd _ _
    (fun j e h => by rw [kg_hit ids dg sent lg hd hs j e h, kz_hit ids dg sent hd hs j e h])
    (fun e h => by rw [kg_miss ids dg sent lg e h, zero_mul])
    (fun j h => by rw [rg_out ids lg j h, zero_mul])

/-- **The kernel's gradient of a token's logits is the reference's.** -/
theorem kgrad_eq (e : Fin 128) : kgrad ids dg sent lg e = rgrad ids dg lg e := by
  unfold kgrad rgrad
  rw [kdot_eq ids dg sent lg hd hs]
  by_cases h : ∃ j, ids j = eid e
  · obtain ⟨j, hj⟩ := h
    rw [kg_hit ids dg sent lg hd hs j e hj, kz_hit ids dg sent hd hs j e hj, ← hj, pick_hit ids hd]
    rfl
  · push Not at h
    rw [kg_miss ids dg sent lg e h, zero_mul, pick_miss _ _ _ _ h]

end Agree

end Cert.Proof

end
-- ==== Proof.Scalars.lean ====
module

public import Idealize.ShloMosaic.PureOps.Ideal
public import Idealize.ShloMosaic.Lib.Pointwise

@[expose] public section

noncomputable section

/-! Scalar facts that reading an array at an index leaves. -/

namespace Cert.Proof

open Idealize.ShloMosaic

/-- The pattern of negative infinity is the least extended real. -/
theorem negInf_eq : Ideal.ofBits FTy.f32 4286578688#32 = (⊥ : EReal) := by
  show Ideal.ieee 8 23 4286578688#32 = ⊥
  unfold Ideal.ieee
  rw [if_pos (by decide), if_pos (by decide), if_pos (by decide)]

/-- Choosing by an equality test of words is choosing by the equality. -/
theorem select_eq {α : Type} {w : Nat} (a b : BitVec w) (x y : α) :
    Scalar.select (IntOp.cmpi CmpIPredicate.eq a b) x y = if a = b then x else y := by
  unfold Scalar.select IntOp.cmpi
  by_cases h : a = b
  · simp [h]
  · have hb : (a == b) = false := by simpa using h
    simp [h, hb]

end Cert.Proof

end
-- ==== Proof.BlockValue.lean ====
module

public import proofs.«01_k».proof.Proof.Body
public import proofs.«01_k».proof.Proof.RouterMath
public import proofs.«01_k».proof.Proof.Scalars
public import Idealize.ShloMosaic.Lib.Pointwise
public import Idealize.ShloMosaic.Lib.Pipeline.ValueKit
public import Idealize.ShloMosaic.Lib.Pipeline.ReadBack

@[expose] public section

noncomputable section

namespace Cert.Proof

open Idealize.ShloMosaic Cert.KernelIdeal Cert.KernelIdeal.Gen

/-! The stored blocks read at an index. -/

/-- The row index a point computes is its batch. -/
theorem rowIndex (i : grid0.Coords) : BitVec.toNat (Scalar.indexCast (BitVec.ofNat 32 (i 1).val)) = (i 1).val := by
  have hi : (i 1).val < 24 := (i 1).isLt
  simp [Scalar.indexCast]
  omega

/-- So the row it reads is in the block. -/
theorem rowOk (i : grid0.Coords) : RowOk i := by
  have hi : (i 1).val < 24 := (i 1).isLt
  intro a
  fin_cases a
  · show BitVec.toNat (Scalar.indexCast (BitVec.ofNat 32 (i 1).val)) + 1 ≤ 24
    rw [rowIndex]
    omega
  · show 0 + 512 ≤ 512
    omega

/-- The row of the scale block is the point's batch. -/
theorem rowOf_at (i : grid0.Coords) (h : RowOk i) (x0 : Vec Ideal S24x512 .f32) (s : Fin 512) :
    rowOf i h x0 (ix2 0 s) = x0 (ix2 (i 1) s) := by
  unfold rowOf
  pointwise
  refine congrArg x0 ?_
  congr 1
  exact Fin.ext (rowIndex i)

/-- The word of the gate gradients that marks an expert no slot chose, read as an extended real. -/
def sentinel : EReal := Ideal.ofBits .f32 1067320913#32

section
variable (row : Vec Ideal S1x512 .f32) (x1 : Vec Ideal S1x512x2048 .fp8e4m3) (x3 : Vec Ideal S1x8x512 .i32)
    (x4 : Vec Ideal S1x8x512 .bf16) (wt : Vec Ideal S128x2048 .bf16)

/-- The gradient of the logit of expert `e` for the token `s` of the block. -/
def tokenGrad (s : Fin 512) (e : Fin 128) : EReal :=
  kgrad (fun j => x3 (ix3 0 j s)) (fun j => x4 (ix3 0 j s)) sentinel
    (fun f => (∑ x : Fin 2048, wt (ix2 f x) * x1 (ix3 0 s x)) * row (ix2 0 s)) e

/-- The block of gradients of the logits is the router's formula at every expert and token. -/
theorem blockGrad_at (e : Fin 128) (s : Fin 512) :
    blockGrad row x1 x3 x4 wt (ix2 e s) = tokenGrad row x1 x3 x4 wt s e := by
  unfold blockGrad chain idRow
  pointwise [k0_pay13, k0_pay6, k0_pay5, k0_pay7, k0_pay8, k0_pay9, k0_pay10, k0_pay11, k0_pay12]
  simp only [negInf_eq, select_eq]
  rfl

/-- Its transpose. -/
theorem blockGradT_at (s : Fin 512) (e : Fin 128) :
    blockGradT row x1 x3 x4 wt (ix2 s e) = tokenGrad row x1 x3 x4 wt s e := by
  rw [← blockGrad_at]
  unfold blockGradT k0_pay15
  rw [← blockGrad]
  pointwise

/-- The block as it is stored. -/
theorem stored_at (s : Fin 512) (e : Fin 128) (v : FVec Ideal S512x128 .f32) : k0_pay16 v (ix3 0 s e) = v (ix2 s e) := by
  pointwise [k0_pay16]

/-- The running sum gains, at expert `e` and feature `d`, the block's products. -/
theorem blockAcc_at (acc : Vec Ideal S128x2048 .f32) (e : Fin 128) (d : Fin 2048) :
    blockAcc row x1 x3 x4 wt acc (ix2 e d)
      = acc (ix2 e d) + ∑ s : Fin 512, tokenGrad row x1 x3 x4 wt s e * row (ix2 0 s) * x1 (ix3 0 s d) := by
  simp only [← blockGrad_at]
  unfold blockAcc k0_pay14
  rw [← blockGrad]
  generalize blockGrad row x1 x3 x4 wt = g
  pointwise [k0_pay5]

end

/-- The transposed weights at an index. -/
theorem weights_at (x2 : Vec Ideal S2048x128 .bf16) (e : Fin 128) (d : Fin 2048) : k0_pay3 x2 (ix2 e d) = x2 (ix2 d e) := by
  pointwise [k0_pay3]

/-- The zeroed sum at an index. -/
theorem zeros_at (e : Fin 128) (d : Fin 2048) : (k0_pay4 : FVec Ideal S128x2048 .f32) (ix2 e d) = 0 := by
  pointwise [k0_pay4]

/-- The stored sum at an index. -/
theorem sum_at (v : Vec Ideal S128x2048 .f32) (d : Fin 2048) (e : Fin 128) : k0_pay2 v (ix2 d e) = v (ix2 e d) := by
  pointwise [k0_pay2]

end Cert.Proof

end
-- ==== Proof.Inputs.lean ====
module

public import proofs.«01_k».proof.Proof.BlockValue
public import proofs.«01_k».proof.Proof.Gen.KernelIdeal.Value

@[expose] public section

noncomputable section

/-! What each grid point reads: its batch's 512 tokens of every argument. -/

namespace Cert.Proof

open Idealize.ShloMosaic Idealize.ShloMosaic.TcCoe Cert.KernelIdeal Cert.KernelIdeal.Gen

/-- The batch of point `t`. -/
def batchOf (t : Fin cfg0.N) : Fin 24 := ⟨t.val % 24, Nat.mod_lt _ (by decide)⟩

/-- The token that lane `s` of point `t` is. -/
def tokenOf (t : Fin cfg0.N) (s : Fin 512) : Fin 3072 :=
  ⟨t.val / 24 * 512 + s.val, by have := t.isLt; have h : cfg0.N = 144 := by decide
                                have := s.isLt; omega⟩

/-- Where each input's block lies. -/
theorem idx : ∀ t : Fin cfg0.N, win0_0.index t = ![0, t.val / 24] ∧ win0_1.index t = ![t.val % 24, t.val / 24, 0]
    ∧ win0_2.index t = ![0, 0] ∧ win0_3.index t = ![t.val % 24, 0, t.val / 24]
    ∧ win0_4.index t = ![t.val % 24, 0, t.val / 24] ∧ win0_5.index t = ![t.val % 24, t.val / 24, 0] := by
  decide +kernel

/-- The batch coordinate of point `t`. -/
theorem coord_batch : ∀ t : Fin cfg0.N, (grid0.coords t 1).val = t.val % 24 := by
  decide +kernel

variable (m : (ℓ : Loc nD τ sig) → Buf (Elt Ideal) ℓ) (c : Dev nD)

/-- The codes. -/
abbrev argX : Vec Ideal S24x3072x2048 .fp8e4m3 := m ((c : Thread nD τ).loc main_arg0)
/-- The scales. -/
abbrev argS : Vec Ideal S24x3072 .f32 := m ((c : Thread nD τ).loc main_arg1)
/-- The weights. -/
abbrev argW : Vec Ideal S2048x128 .bf16 := m ((c : Thread nD τ).loc main_arg2)
/-- The expert ids. -/
abbrev argI : Vec Ideal S24x3072x8 .i32 := m ((c : Thread nD τ).loc main_arg3)
/-- The gate gradients. -/
abbrev argG : Vec Ideal S24x3072x8 .bf16 := m ((c : Thread nD τ).loc main_arg4)
/-- The residual gradient. -/
abbrev argY : Vec Ideal S24x3072x2048 .bf16 := m ((c : Thread nD τ).loc main_arg5)

/-- The scale that lane `s` of point `t` reads. -/
theorem read_scale (t : Fin cfg0.N) (s : Fin 512) :
    iblk m c 0 t (ix2 (grid0.coords t 1) s) = argS m c (ix2 (batchOf t) (tokenOf t s)) := by
  have hb := coord_batch t
  blk_ext [iblk, V, idx t, batchOf, tokenOf]

/-- The code that lane `s` of point `t` reads at feature `x`. -/
theorem read_code (t : Fin cfg0.N) (s : Fin 512) (x : Fin 2048) :
    iblk m c 1 t (ix3 0 s x) = argX m c (ix3 (batchOf t) (tokenOf t s) x) := by
  blk_ext [iblk, V, idx t, batchOf, tokenOf]

/-- The weight that every point reads. -/
theorem read_weight (t : Fin cfg0.N) (x : Fin 2048) (e : Fin 128) :
    iblk m c 2 t (ix2 x e) = argW m c (ix2 x e) := by
  blk_ext [iblk, V, idx t]

/-- The expert id of slot `j` that lane `s` of point `t` reads. -/
theorem read_id (t : Fin cfg0.N) (j : Fin 8) (s : Fin 512) :
    iblk m c 3 t (ix3 0 j s) = argI m c (ix3 (batchOf t) (tokenOf t s) j) := by
  blk_ext! [iblk, V, idx t, batchOf, tokenOf]

/-- The gate gradient of slot `j` that lane `s` of point `t` reads. -/
theorem read_gate (t : Fin cfg0.N) (j : Fin 8) (s : Fin 512) :
    iblk m c 4 t (ix3 0 j s) = argG m c (ix3 (batchOf t) (tokenOf t s) j) := by
  blk_ext! [iblk, V, idx t, batchOf, tokenOf]

/-- The residual gradient that lane `s` of point `t` reads at feature `x`. -/
theorem read_residual (t : Fin cfg0.N) (s : Fin 512) (x : Fin 2048) :
    iblk m c 5 t (ix3 0 s x) = argY m c (ix3 (batchOf t) (tokenOf t s) x) := by
  blk_ext [iblk, V, idx t, batchOf, tokenOf]

end Cert.Proof

end
-- ==== Proof.Precondition.lean ====
module

public import proofs.«01_k».proof.Defs
public import proofs.«01_k».proof.Proof.Gen.Pre_distinct_ids_and_plain_gates
public import proofs.«01_k».proof.Proof.Inputs

@[expose] public section

noncomputable section

/-! What the precondition says of the arguments. -/

namespace Cert.Proof

open Idealize.ShloMosaic Idealize.ShloMosaic.TcCoe Cert.KernelIdeal Cert.KernelIdeal.Gen

variable (m : (ℓ : Loc nD τ sig) → Buf (Elt Ideal) ℓ) (c : Dev nD)

/-- `not a or b` is one only where `a` being one makes `b` one. -/
theorem or_not (a b : BitVec 1) (h : IntOp.ori (~~~a) b = 1#1) (ha : a = 1#1) : b = 1#1 := by
  subst ha
  have hz : ∀ b : BitVec 1, IntOp.ori (~~~(1#1)) b = 1#1 → b = 1#1 := by decide
  exact hz b h

/-- No two slots of a token choose one expert. -/
theorem distinct (hp : Pre_KernelIdeal_distinct_ids_and_plain_gates m) (b : Fin 24) (s : Fin 3072) (i j : Fin 8)
    (h : argI m c (ix3 b s i) = argI m c (ix3 b s j)) : i = j := by
  have h1 := congrFun (hp c).1 (ix4 b s i j)
  unfold Cert.Pre_distinct_ids_and_plain_gates.fn at h1
  pointwise at h1
  have h2 := or_not _ _ h1 (by rw [show m (c.tc.loc main_arg3) (ix3 b s i) = m (c.tc.loc main_arg3) (ix3 b s j) from h]; simp [IntOp.cmpi])
  have h3 : BitVec.ofNat 32 i.val = BitVec.ofNat 32 j.val := by
    by_contra hne
    rw [show IntOp.cmpi .eq (BitVec.ofNat 32 i.val) (BitVec.ofNat 32 j.val) = 0#1 from by
      simp only [IntOp.cmpi]
      rw [beq_eq_false_iff_ne.mpr hne]
      rfl] at h2
    exact absurd h2 (by decide)
  have h4 := congrArg BitVec.toNat h3
  simp only [BitVec.toNat_ofNat] at h4
  exact Fin.ext (by omega)

/-- No gate gradient is the mark of an expert not chosen. -/
theorem plain (hp : Pre_KernelIdeal_distinct_ids_and_plain_gates m) (b : Fin 24) (s : Fin 3072) (j : Fin 8) :
    argG m c (ix3 b s j) ≠ sentinel := by
  have h1 := congrFun (hp c).2 (ix3 b s j)
  unfold Cert.Pre_distinct_ids_and_plain_gates.fn at h1
  pointwise at h1
  intro h
  rw [show m (c.tc.loc main_arg4) (ix3 b s j) = Ideal.ofBits .f32 1067320913#32 from h] at h1
  simp at h1

end Cert.Proof

end
-- ==== Proof.Columns.lean ====
module

public import proofs.«01_k».proof.Proof.Body
public import Idealize.ShloMosaic.Lib.Pointwise
public import Idealize.ShloMosaic.Lib.Pipeline.ValueKit
public import Idealize.ShloMosaic.Lib.Pipeline.ReadBack

@[expose] public section

noncomputable section

namespace Cert.Proof

open Idealize.ShloMosaic Cert.KernelIdeal Cert.KernelIdeal.Gen

/-! The block of token gradients: each point stores it in eight column slices. -/

/-- One column slice of the token gradient: the gradient of the logits times the slice of the weights, plus the
    residual's slice. -/
theorem piece_at (g : FVec Ideal S512x128 .f32) (wt : Vec Ideal S128x2048 .bf16) (x5 : Vec Ideal S1x512x2048 .bf16) (o : Nat)
    (hw : ∀ a, (![0, o] : Fin 2 → Nat) a + (![128, 256] : Fin 2 → Nat) a ≤ S128x2048.size a)
    (hx : ∀ a, (![0, 0, o] : Fin 3 → Nat) a + (![1, 512, 256] : Fin 3 → Nat) a ≤ S1x512x2048.size a)
    (x : S1x512x256.Idx) (y : S1x512x2048.Idx) (h1 : (y 1).val = (x 1).val) (h2 : (y 2).val = o + (x 2).val) :
    k0_pay19 g (View.ld wt (Rect.unit ![0, o] ![128, 256] hw)) (View.ld x5 (Rect.unit ![0, 0, o] ![1, 512, 256] hx)) x
      = (∑ k : Fin 128, g (ix2 (y 1) k) * wt (ix2 k (y 2))) + x5 y := by
  pointwise [k0_pay19, k0_pay18, k0_pay17]
  refine congrArg₂ (· + ·) (Finset.sum_congr rfl fun k _ => congrArg₂ (· * ·) (congrArg g ?_) (congrArg wt ?_)) (congrArg x5 ?_)
  all_goals blk_ext

variable (c : Dev nD) (i : grid0.Coords) (arg2 : Memref sig .tc .vmem S24x512 .f32) (harg2 : arg2.IsWhole) (arg3 : Memref sig .tc .vmem S1x512x2048 .fp8e4m3) (harg3 : arg3.IsWhole) (arg4 : Memref sig .tc .vmem S2048x128 .bf16) (harg4 : arg4.IsWhole) (arg5 : Memref sig .tc .vmem S1x8x512 .i32) (harg5 : arg5.IsWhole) (arg6 : Memref sig .tc .vmem S1x8x512 .bf16) (harg6 : arg6.IsWhole) (arg7 : Memref sig .tc .vmem S1x512x2048 .bf16) (harg7 : arg7.IsWhole) (arg8 : Memref sig .tc .vmem S1x512x2048 .bf16) (harg8 : arg8.IsWhole) (arg9 : Memref sig .tc .vmem S2048x128 .f32) (harg9 : arg9.IsWhole) (arg10 : Memref sig .tc .vmem S1x512x128 .f32) (harg10 : arg10.IsWhole) (arg11 : Memref sig .tc .vmem S1x512x2048 .fp8e4m3) (harg11 : arg11.IsWhole) (arg12 : Memref sig .tc .vmem S1x32x512 .f32) (harg12 : arg12.IsWhole) (arg13 : Memref sig .tc .vmem S128x2048 .bf16) (harg13 : arg13.IsWhole) (arg14 : Memref sig .tc .vmem S128x2048 .f32) (harg14 : arg14.IsWhole) (arg15 : Memref sig .tc .vmem S512x2048 .f32) (harg15 : arg15.IsWhole)
  (x0 : Vec Ideal S24x512 .f32) (x1 : Vec Ideal S1x512x2048 .fp8e4m3) (x2 : Vec Ideal S2048x128 .bf16) (x3 : Vec Ideal S1x8x512 .i32) (x4 : Vec Ideal S1x8x512 .bf16) (x5 : Vec Ideal S1x512x2048 .bf16)

/-- At the first point, an element of the block of token gradients. -/
theorem out0_A_6_at (hc0 : cond0_0 i) (hc1 : ¬cond0_1 i) (h : RowOk i) (y : S1x512x2048.Idx) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 y
      = (∑ k : Fin 128, blockGradT (rowOf i h x0) x1 x3 x4 (k0_pay3 x2) (ix2 (y 1) k) * (k0_pay3 x2) (ix2 k (y 2))) + x5 y := by
  frame_open
  simp (disch := decide) only [↓ View.readCov_skip, ↓ View.readCov_cons_toLoadRect, ↓ View.readCov_fill]
  frame_out
  canon_tiles x h
  all_goals
    exact piece_at (blockGradT (rowOf i h x0) x1 x3 x4 (k0_pay3 x2)) (k0_pay3 x2) x5 _ _ _ x y h1 (by omega)

/-- At a middle point, an element of the block of token gradients. -/
theorem out0_B_6_at (hc0 : ¬cond0_0 i) (hc1 : ¬cond0_1 i) (xs0 : Vec Ideal S128x2048 .bf16) (xs1 : Vec Ideal S128x2048 .f32) (h : RowOk i) (y : S1x512x2048.Idx) :
    out0_B_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 y
      = (∑ k : Fin 128, blockGradT (rowOf i h x0) x1 x3 x4 xs0 (ix2 (y 1) k) * xs0 (ix2 k (y 2))) + x5 y := by
  frame_open
  simp (disch := decide) only [↓ View.readCov_skip, ↓ View.readCov_cons_toLoadRect, ↓ View.readCov_fill]
  frame_out
  canon_tiles x h
  all_goals
    exact piece_at (blockGradT (rowOf i h x0) x1 x3 x4 xs0) xs0 x5 _ _ _ x y h1 (by omega)

/-- At the last point, an element of the block of token gradients. -/
theorem out0_C_6_at (hc0 : ¬cond0_0 i) (hc1 : cond0_1 i) (xs0 : Vec Ideal S128x2048 .bf16) (xs1 : Vec Ideal S128x2048 .f32) (h : RowOk i) (y : S1x512x2048.Idx) :
    out0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 y
      = (∑ k : Fin 128, blockGradT (rowOf i h x0) x1 x3 x4 xs0 (ix2 (y 1) k) * xs0 (ix2 k (y 2))) + x5 y := by
  frame_open
  simp (disch := decide) only [↓ View.readCov_skip, ↓ View.readCov_cons_toLoadRect, ↓ View.readCov_fill]
  frame_out
  canon_tiles x h
  all_goals
    exact piece_at (blockGradT (rowOf i h x0) x1 x3 x4 xs0) xs0 x5 _ _ _ x y h1 (by omega)

end Cert.Proof

end
-- ==== Proof.Points.lean ====
module

public import proofs.«01_k».proof.Proof.Inputs
public import proofs.«01_k».proof.Proof.Columns

@[expose] public section

noncomputable section

/-! What every grid point leaves: its blocks of the results, and the two scratch buffers that it hands on. -/

namespace Cert.Proof

open Idealize.ShloMosaic Idealize.ShloMosaic.TcCoe Cert.KernelIdeal Cert.KernelIdeal.Gen

variable (m : (ℓ : Loc nD τ sig) → Buf (Elt Ideal) ℓ) (c : Dev nD)

/-- The logit of expert `e` for the token `s` of batch `b`, in the kernel's order. -/
def logitAt (b : Fin 24) (s : Fin 3072) (e : Fin 128) : EReal :=
  (∑ x : Fin 2048, argW m c (ix2 x e) * argX m c (ix3 b s x)) * argS m c (ix2 b s)

/-- The gradient of that logit, by the kernel's formula. -/
def gradAt (b : Fin 24) (s : Fin 3072) (e : Fin 128) : EReal :=
  kgrad (fun j => argI m c (ix3 b s j)) (fun j => argG m c (ix3 b s j)) sentinel (logitAt m c b s) e

/-- What lane `s` of point `t` computes is the gradient of its token, whenever the first scratch holds the
    transposed weights. -/
theorem tokenGrad_at (t : Fin cfg0.N) (wt : Vec Ideal S128x2048 .bf16)
    (hw : ∀ (e : Fin 128) (d : Fin 2048), wt (ix2 e d) = argW m c (ix2 d e)) (s : Fin 512) (e : Fin 128) :
    tokenGrad (rowOf (grid0.coords t) (rowOk _) (iblk m c 0 t)) (iblk m c 1 t) (iblk m c 3 t) (iblk m c 4 t) wt s e
      = gradAt m c (batchOf t) (tokenOf t s) e := by
  unfold tokenGrad gradAt logitAt
  simp only [hw, read_code, read_id, read_gate, rowOf_at, read_scale]

/-- What point `t` adds to the gradient of the weights. -/
def pointSum (t : Fin cfg0.N) (e : Fin 128) (d : Fin 2048) : EReal :=
  ∑ s : Fin 512, gradAt m c (batchOf t) (tokenOf t s) e * argS m c (ix2 (batchOf t) (tokenOf t s))
    * argX m c (ix3 (batchOf t) (tokenOf t s) d)

/-- One point's step of the running sum, whenever the first scratch holds the transposed weights. -/
theorem blockAcc_step (t : Fin cfg0.N) (wt : Vec Ideal S128x2048 .bf16) (acc : Vec Ideal S128x2048 .f32)
    (hw : ∀ (e : Fin 128) (d : Fin 2048), wt (ix2 e d) = argW m c (ix2 d e)) (e : Fin 128) (d : Fin 2048) :
    blockAcc (rowOf (grid0.coords t) (rowOk _) (iblk m c 0 t)) (iblk m c 1 t) (iblk m c 3 t) (iblk m c 4 t) wt acc (ix2 e d)
      = acc (ix2 e d) + pointSum m c t e d := by
  rw [blockAcc_at]
  simp only [tokenGrad_at m c t wt hw, read_code, rowOf_at, read_scale]
  rfl

/-- The weights that the first point transposes, at an index. -/
theorem firstWeights (t : Fin cfg0.N) (e : Fin 128) (d : Fin 2048) :
    k0_pay3 (iblk m c 2 t) (ix2 e d) = argW m c (ix2 d e) := by
  rw [weights_at, read_weight]

/-- After every point the first scratch holds the transposed weights. -/
theorem held (n : Nat) (hn : n < cfg0.N) (e : Fin 128) (d : Fin 2048) :
    (outsAt0 m c n hn).2.2.2.2.2.1 (ix2 e d) = argW m c (ix2 d e) := by
  induction n with
  | zero =>
    have E := outsAt0_A m c ⟨0, hn⟩ rfl (show ¬ 0 % 144 = 143 by decide)
    refine (congrFun (congrArg (fun p => p.2.2.2.2.2.1) E) _).trans ?_
    dsimp only
    rw [sout0_A_0_eq, firstWeights]
  | succ n ih =>
    have h144 : cfg0.N = 144 := by decide
    have h0 : ¬ (n + 1) % 144 = 0 := by omega
    by_cases h1 : (n + 1) % 144 = 143
    · have E := outsAt0_C m c ⟨n + 1, hn⟩ h0 h1
      refine (congrFun (congrArg (fun p => p.2.2.2.2.2.1) E) _).trans ?_
      dsimp only
      rw [sout0_C_0_eq]
      exact ih _
    · have E := outsAt0_B m c ⟨n + 1, hn⟩ h0 h1
      refine (congrFun (congrArg (fun p => p.2.2.2.2.2.1) E) _).trans ?_
      dsimp only
      rw [sout0_B_0_eq]
      exact ih _

/-- The block of logit gradients after point `t`. -/
theorem logits_after (t : Fin cfg0.N) (s : Fin 512) (e : Fin 128) :
    (outsAt0 m c t.val t.isLt).2.2.1 (ix3 0 s e) = gradAt m c (batchOf t) (tokenOf t s) e := by
  by_cases h0 : t.val % 144 = 0
  · rw [outsAt0_A m c t h0 (by omega)]
    dsimp only
    rw [out0_A_8_eq (h := rowOk _), stored_at, blockGradT_at, tokenGrad_at m c t _ (firstWeights m c t)]
  · by_cases h1 : t.val % 144 = 143
    · rw [outsAt0_C m c t h0 h1]
      dsimp only
      rw [out0_C_8_eq (h := rowOk _), stored_at, blockGradT_at, tokenGrad_at m c t _ (held m c _ _)]
    · rw [outsAt0_B m c t h0 h1]
      dsimp only
      rw [out0_B_8_eq (h := rowOk _), stored_at, blockGradT_at, tokenGrad_at m c t _ (held m c _ _)]

/-- The gradient of the token `s` of batch `b` at feature `d`. -/
def hiddenAt (b : Fin 24) (s : Fin 3072) (d : Fin 2048) : EReal :=
  (∑ k : Fin 128, gradAt m c b s k * argW m c (ix2 d k)) + argY m c (ix3 b s d)

/-- The block of token gradients after point `t`. -/
theorem hidden_after (t : Fin cfg0.N) (s : Fin 512) (d : Fin 2048) :
    (outsAt0 m c t.val t.isLt).1 (ix3 0 s d) = hiddenAt m c (batchOf t) (tokenOf t s) d := by
  unfold hiddenAt
  by_cases h0 : t.val % 144 = 0
  · rw [outsAt0_A m c t h0 (by omega)]
    dsimp only
    rw [out0_A_6_at (h := rowOk _)]
    refine congrArg₂ (· + ·) (Finset.sum_congr rfl fun k _ => congrArg₂ (· * ·) ?_ (firstWeights m c t k d)) (read_residual m c t s d)
    exact (blockGradT_at _ _ _ _ _ s k).trans (tokenGrad_at m c t _ (firstWeights m c t) s k)
  · by_cases h1 : t.val % 144 = 143
    · rw [outsAt0_C m c t h0 h1]
      dsimp only
      rw [out0_C_6_at (h := rowOk _)]
      refine congrArg₂ (· + ·) (Finset.sum_congr rfl fun k _ => congrArg₂ (· * ·) ?_ (held m c _ _ k d)) (read_residual m c t s d)
      exact (blockGradT_at _ _ _ _ _ s k).trans (tokenGrad_at m c t _ (held m c _ _) s k)
    · rw [outsAt0_B m c t h0 h1]
      dsimp only
      rw [out0_B_6_at (h := rowOk _)]
      refine congrArg₂ (· + ·) (Finset.sum_congr rfl fun k _ => congrArg₂ (· * ·) ?_ (held m c _ _ k d)) (read_residual m c t s d)
      exact (blockGradT_at _ _ _ _ _ s k).trans (tokenGrad_at m c t _ (held m c _ _) s k)

/-- What the points up to `n` have added to the gradient of the weights. -/
def sumTo (n : Nat) (e : Fin 128) (d : Fin 2048) : EReal :=
  ∑ t ∈ Finset.range n, if h : t < cfg0.N then pointSum m c ⟨t, h⟩ e d else 0

/-- One more point. -/
theorem sumTo_succ (n : Nat) (hn : n < cfg0.N) (e : Fin 128) (d : Fin 2048) :
    sumTo m c (n + 1) e d = sumTo m c n e d + pointSum m c ⟨n, hn⟩ e d := by
  unfold sumTo
  rw [Finset.sum_range_succ, dif_pos hn]

/-- After every point the second scratch holds the sum so far. -/
theorem summed (n : Nat) (hn : n < cfg0.N) (e : Fin 128) (d : Fin 2048) :
    (outsAt0 m c n hn).2.2.2.2.2.2 (ix2 e d) = sumTo m c (n + 1) e d := by
  induction n with
  | zero =>
    have E := outsAt0_A m c ⟨0, hn⟩ rfl (show ¬ 0 % 144 = 143 by decide)
    refine (congrFun (congrArg (fun p => p.2.2.2.2.2.2) E) _).trans ?_
    dsimp only
    rw [sout0_A_1_eq (h := rowOk _), blockAcc_step m c _ _ _ (firstWeights m c _), zeros_at, sumTo_succ m c 0 hn]
    rfl
  | succ n ih =>
    have h144 : cfg0.N = 144 := by decide
    have h0 : ¬ (n + 1) % 144 = 0 := by omega
    rw [sumTo_succ m c (n + 1) hn]
    by_cases h1 : (n + 1) % 144 = 143
    · have E := outsAt0_C m c ⟨n + 1, hn⟩ h0 h1
      refine (congrFun (congrArg (fun p => p.2.2.2.2.2.2) E) _).trans ?_
      dsimp only
      rw [sout0_C_1_eq (h := rowOk _), blockAcc_step m c _ _ _ (held m c _ _)]
      exact congrArg (· + _) (ih _)
    · have E := outsAt0_B m c ⟨n + 1, hn⟩ h0 h1
      refine (congrFun (congrArg (fun p => p.2.2.2.2.2.2) E) _).trans ?_
      dsimp only
      rw [sout0_B_1_eq (h := rowOk _), blockAcc_step m c _ _ _ (held m c _ _)]
      exact congrArg (· + _) (ih _)

/-- The last point stores the whole sum, transposed. -/
theorem weights_after (n : Nat) (hn : n + 1 < cfg0.N) (h1 : (n + 1) % 144 = 143) (d : Fin 2048) (e : Fin 128) :
    (outsAt0 m c (n + 1) hn).2.1 (ix2 d e) = sumTo m c (n + 1 + 1) e d := by
  have h0 : ¬ (n + 1) % 144 = 0 := by omega
  have E := outsAt0_C m c ⟨n + 1, hn⟩ h0 h1
  refine (congrFun (congrArg (fun p => p.2.1) E) _).trans ?_
  dsimp only
  rw [out0_C_7_eq (h := rowOk _), sum_at, blockAcc_step m c _ _ _ (held m c _ _), sumTo_succ m c (n + 1) hn]
  exact congrArg (· + _) (summed m c n _ e d)

end Cert.Proof

end
-- ==== Proof.Arrays.lean ====
module

public import proofs.«01_k».proof.Proof.Points

@[expose] public section

noncomputable section

/-! What the kernel's three covered result arrays hold after the run, index by index. -/

namespace Cert.Proof

open Idealize.ShloMosaic Idealize.ShloMosaic.TcCoe Cert.KernelIdeal Cert.KernelIdeal.Gen

variable (m : (ℓ : Loc nD τ sig) → Buf (Elt Ideal) ℓ) (c : Dev nD)

/-- The point that handles the token `s` of batch `b`. -/
def pointOf (b : Fin 24) (s : Fin 3072) : Fin cfg0.N :=
  ⟨24 * (s.val / 512) + b.val, by have : cfg0.N = 144 := by decide
                                  omega⟩

/-- Its batch is `b`. -/
theorem batchOf_pointOf (b : Fin 24) (s : Fin 3072) : batchOf (pointOf b s) = b :=
  Fin.ext (by simp only [batchOf, pointOf]; omega)

/-- Lane `s % 512` of it is the token `s`. -/
theorem tokenOf_pointOf (b : Fin 24) (s : Fin 3072) :
    tokenOf (pointOf b s) ⟨s.val % 512, Nat.mod_lt _ (by decide)⟩ = s :=
  Fin.ext (by simp only [tokenOf, pointOf]; omega)

/-- The array of logit gradients. -/
theorem logits_array (b : Fin 24) (s : Fin 3072) (e : Fin 128) :
    Value.G8 m c (ix3 b s e) = gradAt m c b s e := by
  have hp : Value.pt8Of (ix3 b s e) = (pointOf b s).val := by
    show 1 * (b.val / 1 - 0) + 24 * (s.val / 512 - 0) + 144 * (e.val / 128 - 0) = 24 * (s.val / 512) + b.val
    omega
  have hl : Value.loc8Of (ix3 b s e) = ix3 0 ⟨s.val % 512, Nat.mod_lt _ (by decide)⟩ e := by
    funext a; apply Fin.ext
    match a with
    | ⟨0, _⟩ => show b.val % 1 = 0; omega
    | ⟨1, _⟩ => rfl
    | ⟨2, _⟩ => show e.val % 128 = e.val; omega
  unfold Value.G8
  rw [dif_pos (by rw [hp]; exact (pointOf b s).isLt), hl, Value.fold0_congr m c _ _ _ (by rw [Nat.zero_add]; exact (pointOf b s).isLt) hp, ← Value.outsAt0_sweep m c _ (pointOf b s).isLt,
    logits_after, batchOf_pointOf, tokenOf_pointOf]

/-- The array of token gradients. -/
theorem hidden_array (b : Fin 24) (s : Fin 3072) (d : Fin 2048) :
    Value.G6 m c (ix3 b s d) = hiddenAt m c b s d := by
  have hp : Value.pt6Of (ix3 b s d) = (pointOf b s).val := by
    show 1 * (b.val / 1 - 0) + 24 * (s.val / 512 - 0) + 144 * (d.val / 2048 - 0) = 24 * (s.val / 512) + b.val
    omega
  have hl : Value.loc6Of (ix3 b s d) = ix3 0 ⟨s.val % 512, Nat.mod_lt _ (by decide)⟩ d := by
    funext a; apply Fin.ext
    match a with
    | ⟨0, _⟩ => show b.val % 1 = 0; omega
    | ⟨1, _⟩ => rfl
    | ⟨2, _⟩ => show d.val % 2048 = d.val; omega
  unfold Value.G6
  rw [dif_pos (by rw [hp]; exact (pointOf b s).isLt), hl, Value.fold0_congr m c _ _ _ (by rw [Nat.zero_add]; exact (pointOf b s).isLt) hp, ← Value.outsAt0_sweep m c _ (pointOf b s).isLt,
    hidden_after, batchOf_pointOf, tokenOf_pointOf]

/-- What one token adds to the gradient of the weights, in the kernel's order. -/
def weightTerm (b : Fin 24) (s : Fin 3072) (e : Fin 128) (d : Fin 2048) : EReal :=
  gradAt m c b s e * argS m c (ix2 b s) * argX m c (ix3 b s d)

/-- The points' sums, taken over all points, are the sum over all tokens of all batches. -/
theorem sumTo_all (e : Fin 128) (d : Fin 2048) :
    sumTo m c 144 e d = ∑ b : Fin 24, ∑ s : Fin 3072, weightTerm m c b s e d := by
  have hN : cfg0.N = 144 := by decide
  unfold sumTo
  rw [Finset.sum_range]
  have h1 : ∀ b : Fin 24, ∑ s : Fin 3072, weightTerm m c b s e d
      = ∑ q : Fin 6, ∑ r : Fin 512, weightTerm m c b ⟨q.val * 512 + r.val, by omega⟩ e d := fun b =>
    (Fin.sum_mul_add_fin 6 512 fun s : Fin 3072 => weightTerm m c b s e d).symm
  rw [Finset.sum_congr rfl fun b _ => h1 b, Finset.sum_comm]
  refine Fin.sum_divmod_congr (A := 6) (S := 24) fun t ha hs => ?_
  rw [dif_pos (by rw [hN]; exact t.isLt)]
  rfl

/-- The array of weight gradients. -/
theorem weights_array (d : Fin 2048) (e : Fin 128) :
    Value.G7 m c (ix2 d e) = ∑ b : Fin 24, ∑ s : Fin 3072, weightTerm m c b s e d := by
  rw [Value.G7_last, ← Value.outsAt0_sweep m c 143 (by decide), weights_after m c 142 _ rfl, sumTo_all]

end Cert.Proof

end
-- ==== Proof.RefBody.lean ====
module

public import proofs.«01_k».proof.Proof.Gen.ReferenceIdeal.Frame
public import Idealize.ShloMosaic.Lib.Pointwise
public import Idealize.ShloMosaic.Lib.Pipeline.ValueKit
public import Idealize.ShloMosaic.Lib.Pipeline.ReadBack

@[expose] public section

noncomputable section

/-! What the reference stores, as arrays of its six arguments. -/

namespace Cert.Proof.Ref

open Idealize.ShloMosaic Cert.ReferenceIdeal Cert.ReferenceIdeal.Gen

variable {F : FTy → Type} [FloatOps F]

section
variable (x0 : Vec F S24x3072x2048 .fp8e4m3) (x1 : Vec F S24x3072 .f32) (x2 : Vec F S2048x128 .bf16)
  (x3 : Vec F S24x3072x8 .i32) (x4 : Vec F S24x3072x8 .bf16) (x5 : Vec F S24x3072x2048 .bf16)

/-- The gradients of the selected logits, slot by slot. -/
def selected : FVec F S24x3072x8 .f32 :=
  k0_pay8 (k0_pay5 x0 x1 x2 x3) (k0_pay6 x4) (k0_pay7 x0 x1 x2 x3 x4)

/-- They scattered to the experts, first six slots. -/
def scattered : FVec F S24x3072x128 .f32 :=
  k0_pay9 x3 (k0_pay5 x0 x1 x2 x3) (k0_pay6 x4) (k0_pay7 x0 x1 x2 x3 x4)

/-- The gradients of the logits. -/
def logits : FVec F S24x3072x128 .f32 :=
  k0_pay12 x3 (selected x0 x1 x2 x3 x4) (iota .tc S1x1x128 32 [2] iota_S1x1x128_d2_w32) (scattered x0 x1 x2 x3 x4)
    (k0_pay10 x3) k0_pay11

/-- The gradients of the weights. -/
def weights : FVec F S2048x128 .f32 :=
  k0_pay15 x1 x3 (k0_pay4 x0) (selected x0 x1 x2 x3 x4) (iota .tc S1x1x128 32 [2] iota_S1x1x128_d2_w32)
    (scattered x0 x1 x2 x3 x4) (k0_pay10 x3) k0_pay11

/-- The gradients of the tokens. -/
def hidden : FVec F S24x3072x2048 .bf16 :=
  k0_pay16 x2 x3 x5 (selected x0 x1 x2 x3 x4) (iota .tc S1x1x128 32 [2] iota_S1x1x128_d2_w32)
    (scattered x0 x1 x2 x3 x4) (k0_pay10 x3) k0_pay11

end

variable (c : Dev nD) (arg0 : Memref sig .tc .vmem S24x3072x2048 .fp8e4m3) (harg0 : arg0.IsWhole) (arg1 : Memref sig .tc .vmem S24x3072 .f32) (harg1 : arg1.IsWhole) (arg2 : Memref sig .tc .vmem S2048x128 .bf16) (harg2 : arg2.IsWhole) (arg3 : Memref sig .tc .vmem S24x3072x8 .i32) (harg3 : arg3.IsWhole) (arg4 : Memref sig .tc .vmem S24x3072x8 .bf16) (harg4 : arg4.IsWhole) (arg5 : Memref sig .tc .vmem S24x3072x2048 .bf16) (harg5 : arg5.IsWhole) (arg6 : Memref sig .tc .vmem S24x3072x2048 .bf16) (harg6 : arg6.IsWhole) (arg7 : Memref sig .tc .vmem S2048x128 .f32) (harg7 : arg7.IsWhole) (arg8 : Memref sig .tc .vmem S24x3072x128 .f32) (harg8 : arg8.IsWhole) (arg9 : Memref sig .tc .vmem S24x3072x2048 .fp8e4m3) (harg9 : arg9.IsWhole) (arg10 : Memref sig .tc .vmem S24x32x3072 .f32) (harg10 : arg10.IsWhole)
  (x0 : Vec F S24x3072x2048 .fp8e4m3) (x1 : Vec F S24x3072 .f32) (x2 : Vec F S2048x128 .bf16)
  (x3 : Vec F S24x3072x8 .i32) (x4 : Vec F S24x3072x8 .bf16) (x5 : Vec F S24x3072x2048 .bf16)

/-- It stores the gradients of the logits. -/
theorem out0_A_8_eq : out0_A_8 c arg0 harg0 arg1 harg1 arg2 harg2 arg3 harg3 arg4 harg4 arg5 harg5 arg6 harg6 arg7 harg7 arg8 harg8 arg9 harg9 arg10 harg10 x0 x1 x2 x3 x4 x5 = logits x0 x1 x2 x3 x4 := by
  frame_open
  frame_out
  rfl

/-- It stores the gradients of the weights. -/
theorem out0_A_7_eq : out0_A_7 c arg0 harg0 arg1 harg1 arg2 harg2 arg3 harg3 arg4 harg4 arg5 harg5 arg6 harg6 arg7 harg7 arg8 harg8 arg9 harg9 arg10 harg10 x0 x1 x2 x3 x4 x5 = weights x0 x1 x2 x3 x4 := by
  frame_open
  frame_out
  rfl

/-- It stores the gradients of the tokens. -/
theorem out0_A_6_eq : out0_A_6 c arg0 harg0 arg1 harg1 arg2 harg2 arg3 harg3 arg4 harg4 arg5 harg5 arg6 harg6 arg7 harg7 arg8 harg8 arg9 harg9 arg10 harg10 x0 x1 x2 x3 x4 x5 = hidden x0 x1 x2 x3 x4 x5 := by
  frame_open
  frame_out
  rfl

end Cert.Proof.Ref

end
-- ==== Proof.RefValue.lean ====
module

public import proofs.«01_k».proof.Proof.RefBody
public import proofs.«01_k».proof.Proof.RouterMath
public import proofs.«01_k».proof.Proof.Scalars

@[expose] public section

noncomputable section

/-! The reference's stored arrays read at an index. -/

namespace Cert.Proof.Ref

open Idealize.ShloMosaic Cert.ReferenceIdeal Cert.ReferenceIdeal.Gen

/-- The logits of the chosen experts, slot by slot. -/
def chosen (x0 : Vec Ideal S24x3072x2048 .fp8e4m3) (x1 : Vec Ideal S24x3072 .f32) (x2 : Vec Ideal S2048x128 .bf16)
    (x3 : Vec Ideal S24x3072x8 .i32) : FVec Ideal S24x3072x8 .f32 :=
  have cst : FVec Ideal S24x3072x128 .f32 := constant S24x3072x128 .f32 0x00000000#32
  have v7 : FVec Ideal S24x3072x128 .f32 := matmul dot_S24x3072x2048_S2048x128_S24x3072x128_2_0_01_1_n_n none (φ₁ := .bf16) (φ₂ := .bf16) (k0_pay4 x0) x2 cst
  have v8 : FVec Ideal S24x3072x1 .f32 := shapeCast S24x3072x1 x1 shapeCasts_S24x3072_S24x3072x1
  have v9 : FVec Ideal S24x3072x128 .f32 := broadcastTo S24x3072x128 v8 broadcasts_S24x3072x1_S24x3072x128
  have v10 : FVec Ideal S24x3072x128 .f32 := mulf v7 v9
  have v11 : IVec S1x1x1x128 32 := iota .tc S1x1x1x128 32 [3] iota_S1x1x1x128_d3_w32
  have v12 : IVec S24x3072x8x1 32 := shapeCast S24x3072x8x1 x3 shapeCasts_S24x3072x8_S24x3072x8x1
  have v13 : IVec S24x3072x8x128 32 := broadcastTo S24x3072x8x128 v12 broadcasts_S24x3072x8x1_S24x3072x8x128
  have v14 : IVec S24x3072x8x128 32 := broadcastTo S24x3072x8x128 v11 broadcasts_S1x1x1x128_S24x3072x8x128
  have v15 : IVec S24x3072x8x128 1 := cmpi .eq v13 v14
  have v16 : FVec Ideal S24x3072x1x128 .f32 := shapeCast S24x3072x1x128 v10 shapeCasts_S24x3072x128_S24x3072x1x128
  have cst_15 : Ideal .f32 := Scalar.ofBits .f32 0xFF800000#32
  have v17 : FVec Ideal S24x3072x1x128 .f32 := shapeCast S24x3072x1x128 v16 shapeCasts_S24x3072x1x128_S24x3072x1x128
  have v18 : FVec Ideal S24x3072x8x128 .f32 := broadcastTo S24x3072x8x128 v17 broadcasts_S24x3072x1x128_S24x3072x8x128
  have v19 : FVec Ideal S24x3072x8x128 .f32 := broadcast S24x3072x8x128 cst_15
  have v20 : FVec Ideal S24x3072x8x128 .f32 := select v15 v18 v19
  multiReduction .maximumf [3] S24x3072x8 v20 0xFF800000#32 reduces_S24x3072x8x128_S24x3072x8 (.inl rfl) rfl

/-- The unnormalised softmax weights. -/
def unnormalised (v21 : FVec Ideal S24x3072x8 .f32) : FVec Ideal S24x3072x8 .f32 :=
  have v22 : FVec Ideal S24x3072 .f32 := multiReduction .maximumf [2] S24x3072 v21 0xFF800000#32 reduces_S24x3072x8_S24x3072 (.inl rfl) rfl
  have v23 : FVec Ideal S24x3072x1 .f32 := shapeCast S24x3072x1 v22 shapeCasts_S24x3072_S24x3072x1
  have v24 : FVec Ideal S24x3072x8 .f32 := broadcastTo S24x3072x8 v23 broadcasts_S24x3072x1_S24x3072x8
  have v25 : FVec Ideal S24x3072x8 .f32 := subf v21 v24
  exp v25

/-- The softmax weights. -/
def normalised (v26 : FVec Ideal S24x3072x8 .f32) : FVec Ideal S24x3072x8 .f32 :=
  have v27 : FVec Ideal S24x3072 .f32 := multiReduction .add [2] S24x3072 v26 0x00000000#32 reduces_S24x3072x8_S24x3072 (.inl rfl) rfl
  have v28 : FVec Ideal S24x3072x1 .f32 := shapeCast S24x3072x1 v27 shapeCasts_S24x3072_S24x3072x1
  have cst_19 : Ideal .f32 := Scalar.ofBits .f32 0x00000000#32
  have v29 : FVec Ideal S24x3072x1 .f32 := broadcast S24x3072x1 cst_19
  have v30 : IVec S24x3072x1 1 := cmpf .oeq v28 v29
  have cst_20 : Ideal .f32 := Scalar.ofBits .f32 0x3F800000#32
  have v31 : FVec Ideal S24x3072x1 .f32 := broadcast S24x3072x1 cst_20
  have v32 : FVec Ideal S24x3072x1 .f32 := select v30 v31 v28
  have v33 : FVec Ideal S24x3072x8 .f32 := broadcastTo S24x3072x8 v32 broadcasts_S24x3072x1_S24x3072x8
  divf v26 v33

section
variable (x0 : Vec Ideal S24x3072x2048 .fp8e4m3) (x1 : Vec Ideal S24x3072 .f32) (x2 : Vec Ideal S2048x128 .bf16)
  (x3 : Vec Ideal S24x3072x8 .i32) (x4 : Vec Ideal S24x3072x8 .bf16) (x5 : Vec Ideal S24x3072x2048 .bf16)

/-- The softmax in its three steps. -/
theorem gate_eq : k0_pay5 x0 x1 x2 x3 = normalised (unnormalised (chosen x0 x1 x2 x3)) := rfl

/-- The logit of expert `e` for the token `s` of batch `b`, in the reference's order. -/
def logitAt (b : Fin 24) (s : Fin 3072) (e : Fin 128) : EReal :=
  (∑ x : Fin 2048, x0 (ix3 b s x) * x2 (ix2 x e)) * x1 (ix2 b s)

/-- The logit of the expert that slot `j` chose. -/
theorem chosen_at (b : Fin 24) (s : Fin 3072) (j : Fin 8) :
    chosen x0 x1 x2 x3 (ix3 b s j) = rl (fun j => x3 (ix3 b s j)) (logitAt x0 x1 x2 b s) j := by
  pointwise [chosen, k0_pay4]
  simp only [negInf_eq, select_eq]
  rfl

end

/-- The unnormalised weight of slot `j`. -/
theorem unnormalised_at (v : FVec Ideal S24x3072x8 .f32) (b : Fin 24) (s : Fin 3072) (j : Fin 8) :
    unnormalised v (ix3 b s j) = Ideal.exp (v (ix3 b s j) - Finset.univ.fold max ⊥ fun k : Fin 8 => v (ix3 b s k)) := by
  pointwise [unnormalised]
  simp only [negInf_eq]

/-- The weight of slot `j`. -/
theorem normalised_at (v : FVec Ideal S24x3072x8 .f32) (b : Fin 24) (s : Fin 3072) (j : Fin 8) :
    normalised v (ix3 b s j) = Ideal.div (v (ix3 b s j))
      (if (∑ k : Fin 8, v (ix3 b s k)) = 0 then 1 else ∑ k : Fin 8, v (ix3 b s k)) := by
  pointwise [normalised]

/-- The gradient of the logit that slot `j` chose, from the weights `g`. -/
theorem selected_at' (g d : FVec Ideal S24x3072x8 .f32) (b : Fin 24) (s : Fin 3072) (j : Fin 8) :
    k0_pay8 g d (mulf g d) (ix3 b s j)
      = g (ix3 b s j) * (d (ix3 b s j) - ∑ k : Fin 8, g (ix3 b s k) * d (ix3 b s k)) := by
  pointwise [k0_pay8]

/-- The slots' values scattered to the experts. -/
theorem scatter_at (x3 : Vec Ideal S24x3072x8 .i32) (v34 v35 v36 : FVec Ideal S24x3072x8 .f32) (b : Fin 24) (s : Fin 3072) (e : Fin 128) :
    k0_pay12 x3 (k0_pay8 v34 v35 v36) (iota .tc S1x1x128 32 [2] iota_S1x1x128_d2_w32) (k0_pay9 x3 v34 v35 v36) (k0_pay10 x3) k0_pay11
      (ix3 b s e) = pick (fun j => x3 (ix3 b s j)) (fun j => k0_pay8 v34 v35 v36 (ix3 b s j)) 0 (eid e) := by
  unfold k0_pay9
  generalize k0_pay8 v34 v35 v36 = v
  pointwise [k0_pay12, k0_pay10, k0_pay11]
  simp only [select_eq]
  rfl

section
variable (x0 : Vec Ideal S24x3072x2048 .fp8e4m3) (x1 : Vec Ideal S24x3072 .f32) (x2 : Vec Ideal S2048x128 .bf16)
  (x3 : Vec Ideal S24x3072x8 .i32) (x4 : Vec Ideal S24x3072x8 .bf16) (x5 : Vec Ideal S24x3072x2048 .bf16)

/-- The softmax weight of slot `j`. -/
theorem gate_at (b : Fin 24) (s : Fin 3072) (j : Fin 8) :
    k0_pay5 x0 x1 x2 x3 (ix3 b s j) = rg (fun j => x3 (ix3 b s j)) (logitAt x0 x1 x2 b s) j := by
  rw [gate_eq, normalised_at]
  simp only [unnormalised_at, chosen_at]
  rfl

/-- The gradient of the logit that slot `j` chose. -/
theorem selected_at (b : Fin 24) (s : Fin 3072) (j : Fin 8) :
    selected x0 x1 x2 x3 x4 (ix3 b s j)
      = rsel (fun j => x3 (ix3 b s j)) (fun j => x4 (ix3 b s j)) (logitAt x0 x1 x2 b s) j := by
  have h := selected_at' (k0_pay5 x0 x1 x2 x3) (k0_pay6 x4) b s j
  simp only [gate_at] at h
  exact h

/-- The gradient of the logit of expert `e`, by the reference's formula. -/
def gradAt (b : Fin 24) (s : Fin 3072) (e : Fin 128) : EReal :=
  rgrad (fun j => x3 (ix3 b s j)) (fun j => x4 (ix3 b s j)) (logitAt x0 x1 x2 b s) e

/-- The array of logit gradients. -/
theorem logits_at (b : Fin 24) (s : Fin 3072) (e : Fin 128) :
    logits x0 x1 x2 x3 x4 (ix3 b s e) = gradAt x0 x1 x2 x3 x4 b s e := by
  refine (scatter_at x3 _ _ _ b s e).trans ?_
  exact congrArg (fun v => pick (fun j => x3 (ix3 b s j)) v 0 (eid e)) (funext fun j => selected_at x0 x1 x2 x3 x4 b s j)

end

/-- The product with the weights, and the residual added. -/
theorem project_at (x2 : Vec Ideal S2048x128 .bf16) (x3 : Vec Ideal S24x3072x8 .i32) (x5 : Vec Ideal S24x3072x2048 .bf16)
    (v41 : FVec Ideal S24x3072x8 .f32) (v42 : IVec S1x1x128 32) (v91 : FVec Ideal S24x3072x128 .f32) (v93 v94 : IVec S24x3072x128 32)
    (b : Fin 24) (s : Fin 3072) (d : Fin 2048) :
    k0_pay16 x2 x3 x5 v41 v42 v91 v93 v94 (ix3 b s d)
      = (∑ k : Fin 128, k0_pay12 x3 v41 v42 v91 v93 v94 (ix3 b s k) * x2 (ix2 d k)) + x5 (ix3 b s d) := by
  unfold k0_pay16 k0_pay14 k0_pay13
  generalize k0_pay12 x3 v41 v42 v91 v93 v94 = g
  pointwise

/-- The product with the tokens, over all tokens of all batches in one axis. -/
theorem contract_at (x0 : Vec Ideal S24x3072x2048 .fp8e4m3) (x1 : Vec Ideal S24x3072 .f32) (x3 : Vec Ideal S24x3072x8 .i32)
    (v41 : FVec Ideal S24x3072x8 .f32) (v42 : IVec S1x1x128 32) (v91 : FVec Ideal S24x3072x128 .f32) (v93 v94 : IVec S24x3072x128 32)
    (d : Fin 2048) (e : Fin 128) :
    k0_pay15 x1 x3 (k0_pay4 x0) v41 v42 v91 v93 v94 (ix2 d e)
      = ∑ b : Fin 24, ∑ s : Fin 3072, x0 (ix3 b s d) * (k0_pay12 x3 v41 v42 v91 v93 v94 (ix3 b s e) * x1 (ix2 b s)) := by
  unfold k0_pay15 k0_pay13 k0_pay4
  generalize k0_pay12 x3 v41 v42 v91 v93 v94 = g
  pointwise
  exact Fin.sum_divmod_fin 3072 fun (b : Fin 24) (s : Fin 3072) => x0 (ix3 b s d) * (g (ix3 b s e) * x1 (ix2 b s))

section
variable (x0 : Vec Ideal S24x3072x2048 .fp8e4m3) (x1 : Vec Ideal S24x3072 .f32) (x2 : Vec Ideal S2048x128 .bf16)
  (x3 : Vec Ideal S24x3072x8 .i32) (x4 : Vec Ideal S24x3072x8 .bf16) (x5 : Vec Ideal S24x3072x2048 .bf16)

/-- The array of token gradients. -/
theorem hidden_at (b : Fin 24) (s : Fin 3072) (d : Fin 2048) :
    hidden x0 x1 x2 x3 x4 x5 (ix3 b s d)
      = (∑ k : Fin 128, gradAt x0 x1 x2 x3 x4 b s k * x2 (ix2 d k)) + x5 (ix3 b s d) := by
  refine (project_at _ _ _ _ _ _ _ _ b s d).trans ?_
  exact congrArg (· + _) (Finset.sum_congr rfl fun k _ => congrArg (· * _) (logits_at x0 x1 x2 x3 x4 b s k))

/-- The array of weight gradients. -/
theorem weights_at (d : Fin 2048) (e : Fin 128) :
    weights x0 x1 x2 x3 x4 (ix2 d e)
      = ∑ b : Fin 24, ∑ s : Fin 3072, x0 (ix3 b s d) * (gradAt x0 x1 x2 x3 x4 b s e * x1 (ix2 b s)) := by
  refine (contract_at _ _ _ _ _ _ _ _ d e).trans ?_
  exact Finset.sum_congr rfl fun b _ => Finset.sum_congr rfl fun s _ =>
    congrArg (_ * ·) (congrArg (· * _) (logits_at x0 x1 x2 x3 x4 b s e))

end

end Cert.Proof.Ref

end
-- ==== Proof.RefArrays.lean ====
module

public import proofs.«01_k».proof.Proof.RefValue
public import proofs.«01_k».proof.Proof.Gen.ReferenceIdeal.Value

@[expose] public section

noncomputable section

/-! What the reference's three covered result arrays hold after the run. -/

namespace Cert.Proof.Ref

open Idealize.ShloMosaic Idealize.ShloMosaic.TcCoe Cert.ReferenceIdeal Cert.ReferenceIdeal.Gen

variable (m : (ℓ : Loc nD τ sig) → Buf (Elt Ideal) ℓ) (c : Dev nD)

/-- The codes. -/
abbrev argX : Vec Ideal S24x3072x2048 .fp8e4m3 := m ((c : Thread nD τ).loc main_arg0)
/-- The scales. -/
abbrev argS : Vec Ideal S24x3072 .f32 := m ((c : Thread nD τ).loc main_arg1)
/-- The weights. -/
abbrev argW : Vec Ideal S2048x128 .bf16 := m ((c : Thread nD τ).loc main_arg2)
/-- The expert ids. -/
abbrev argI : Vec Ideal S24x3072x8 .i32 := m ((c : Thread nD τ).loc main_arg3)
/-- The gate gradients. -/
abbrev argG : Vec Ideal S24x3072x8 .bf16 := m ((c : Thread nD τ).loc main_arg4)
/-- The residual gradient. -/
abbrev argY : Vec Ideal S24x3072x2048 .bf16 := m ((c : Thread nD τ).loc main_arg5)

/-- The one grid point. -/
abbrev t0 : Fin cfg0.N := ⟨0, by decide⟩

/-- Every input's block is the first. -/
theorem idx : win0_0.index t0 = ![0, 0, 0] ∧ win0_1.index t0 = ![0, 0] ∧ win0_2.index t0 = ![0, 0]
    ∧ win0_3.index t0 = ![0, 0, 0] ∧ win0_4.index t0 = ![0, 0, 0] ∧ win0_5.index t0 = ![0, 0, 0] := by
  decide +kernel

/-- It reads each argument whole. -/
theorem read0 : iblk m c 0 t0 = argX m c := by
  funext y
  blk_ext [iblk, V, idx]
/-- It reads each argument whole. -/
theorem read1 : iblk m c 1 t0 = argS m c := by
  funext y
  blk_ext [iblk, V, idx]
/-- It reads each argument whole. -/
theorem read2 : iblk m c 2 t0 = argW m c := by
  funext y
  blk_ext [iblk, V, idx]
/-- It reads each argument whole. -/
theorem read3 : iblk m c 3 t0 = argI m c := by
  funext y
  blk_ext [iblk, V, idx]
/-- It reads each argument whole. -/
theorem read4 : iblk m c 4 t0 = argG m c := by
  funext y
  blk_ext [iblk, V, idx]
/-- It reads each argument whole. -/
theorem read5 : iblk m c 5 t0 = argY m c := by
  funext y
  blk_ext [iblk, V, idx]

/-- The array of logit gradients. -/
theorem logits_array : (dats m 0 c).arrAt 8 cfg0.N = logits (argX m c) (argS m c) (argW m c) (argI m c) (argG m c) := by
  refine (dats m 0 c).arrAt_eq_of_after_last 8 t0 (by decide +kernel) _ fun j => ?_
  blk_simp
  rw [after0_8, outsAt0]
  dsimp only
  rw [out0_A_8_eq, read0, read1, read2, read3, read4]

/-- The array of weight gradients. -/
theorem weights_array : (dats m 0 c).arrAt 7 cfg0.N = weights (argX m c) (argS m c) (argW m c) (argI m c) (argG m c) := by
  refine (dats m 0 c).arrAt_eq_of_after_last 7 t0 (by decide +kernel) _ fun j => ?_
  blk_simp
  rw [after0_7, outsAt0]
  dsimp only
  rw [out0_A_7_eq, read0, read1, read2, read3, read4]

/-- The array of token gradients. -/
theorem hidden_array : (dats m 0 c).arrAt 6 cfg0.N = hidden (argX m c) (argS m c) (argW m c) (argI m c) (argG m c) (argY m c) := by
  refine (dats m 0 c).arrAt_eq_of_after_last 6 t0 (by decide +kernel) _ fun j => ?_
  blk_simp
  rw [after0_6, outsAt0]
  dsimp only
  rw [out0_A_6_eq, read0, read1, read2, read3, read4, read5]

end Cert.Proof.Ref

end
-- ==== Proof.Equation.lean ====
module

public import proofs.«01_k».proof.Proof.Arrays
public import proofs.«01_k».proof.Proof.RefArrays

@[expose] public section

noncomputable section

/-! The kernel's arrays are the reference's. -/

namespace Cert.Proof

open Idealize.ShloMosaic Idealize.ShloMosaic.TcCoe Cert.KernelIdeal Cert.KernelIdeal.Gen

variable (m : (ℓ : Loc nD τ sig) → Buf (Elt Ideal) ℓ) (c : Dev nD)

/-- The two orders of a logit's products give one logit. -/
theorem logit_eq (b : Fin 24) (s : Fin 3072) :
    logitAt m c b s = Ref.logitAt (argX m c) (argS m c) (argW m c) b s := by
  funext e
  unfold logitAt Ref.logitAt
  exact congrArg (· * _) (Finset.sum_congr rfl fun x _ => mul_comm _ _)

variable (hd : ∀ (b : Fin 24) (s : Fin 3072) (i j : Fin 8), argI m c (ix3 b s i) = argI m c (ix3 b s j) → i = j)
  (hs : ∀ (b : Fin 24) (s : Fin 3072) (j : Fin 8), argG m c (ix3 b s j) ≠ sentinel)
include hd hs

/-- The two formulas give one gradient. -/
theorem grad_eq (b : Fin 24) (s : Fin 3072) (e : Fin 128) :
    gradAt m c b s e = Ref.gradAt (argX m c) (argS m c) (argW m c) (argI m c) (argG m c) b s e := by
  unfold gradAt Ref.gradAt
  rw [kgrad_eq _ _ _ _ (hd b s) (hs b s), logit_eq]

/-- The logit gradients are the reference's. -/
theorem logits_same : Value.G8 m c = Ref.logits (argX m c) (argS m c) (argW m c) (argI m c) (argG m c) := by
  funext i
  obtain ⟨b, s, e, rfl⟩ : ∃ (b : Fin 24) (s : Fin 3072) (e : Fin 128), i = ix3 b s e := ⟨_, _, _, eq_ix3 i⟩
  rw [logits_array, Ref.logits_at, grad_eq m c hd hs]

/-- The token gradients are the reference's. -/
theorem hidden_same : Value.G6 m c = Ref.hidden (argX m c) (argS m c) (argW m c) (argI m c) (argG m c) (argY m c) := by
  funext i
  obtain ⟨b, s, d, rfl⟩ : ∃ (b : Fin 24) (s : Fin 3072) (d : Fin 2048), i = ix3 b s d := ⟨_, _, _, eq_ix3 i⟩
  rw [hidden_array, Ref.hidden_at, hiddenAt]
  simp only [grad_eq m c hd hs]

/-- The weight gradients are the reference's. -/
theorem weights_same : Value.G7 m c = Ref.weights (argX m c) (argS m c) (argW m c) (argI m c) (argG m c) := by
  funext i
  obtain ⟨d, e, rfl⟩ : ∃ (d : Fin 2048) (e : Fin 128), i = ix2 d e := ⟨_, _, eq_ix2 i⟩
  rw [weights_array, Ref.weights_at]
  refine Fin.sum_fin_congr fun b => Fin.sum_fin_congr fun s => ?_
  rw [weightTerm, grad_eq m c hd hs]
  exact mul_comm (_ : EReal) _

end Cert.Proof

end
-- ==== Proof.Quantiser.lean ====
module

public import proofs.«01_k».proof.Proof.Columns

@[expose] public section

noncomputable section

namespace Cert.Proof

open Idealize.ShloMosaic Cert.KernelIdeal Cert.KernelIdeal.Gen

/-! The quantiser: the largest magnitude of each 64 columns, and the power of two taken from it. -/

/-- The largest entries of the first 128 rows of a packed pair, sixteen rows of them. -/
def frontMax (v : FVec Ideal S256x128 .bf16) : FVec Ideal S16x128 .bf16 :=
  maximumf (maximumf (maximumf (maximumf (maximumf (maximumf (maximumf
    (extractStridedSlice S16x128 ![0, 0] v slices_S256x128_o0_0_S16x128)
    (extractStridedSlice S16x128 ![16, 0] v slices_S256x128_o16_0_S16x128))
    (extractStridedSlice S16x128 ![32, 0] v slices_S256x128_o32_0_S16x128))
    (extractStridedSlice S16x128 ![48, 0] v slices_S256x128_o48_0_S16x128))
    (extractStridedSlice S16x128 ![64, 0] v slices_S256x128_o64_0_S16x128))
    (extractStridedSlice S16x128 ![80, 0] v slices_S256x128_o80_0_S16x128))
    (extractStridedSlice S16x128 ![96, 0] v slices_S256x128_o96_0_S16x128))
    (extractStridedSlice S16x128 ![112, 0] v slices_S256x128_o112_0_S16x128)

/-- The largest entries of the last 128 rows of a packed pair, sixteen rows of them. -/
def backMax (v : FVec Ideal S256x128 .bf16) : FVec Ideal S16x128 .bf16 :=
  maximumf (maximumf (maximumf (maximumf (maximumf (maximumf (maximumf
    (extractStridedSlice S16x128 ![128, 0] v slices_S256x128_o128_0_S16x128)
    (extractStridedSlice S16x128 ![144, 0] v slices_S256x128_o144_0_S16x128))
    (extractStridedSlice S16x128 ![160, 0] v slices_S256x128_o160_0_S16x128))
    (extractStridedSlice S16x128 ![176, 0] v slices_S256x128_o176_0_S16x128))
    (extractStridedSlice S16x128 ![192, 0] v slices_S256x128_o192_0_S16x128))
    (extractStridedSlice S16x128 ![208, 0] v slices_S256x128_o208_0_S16x128))
    (extractStridedSlice S16x128 ![224, 0] v slices_S256x128_o224_0_S16x128))
    (extractStridedSlice S16x128 ![240, 0] v slices_S256x128_o240_0_S16x128)

/-- One step of the fold over sixteen rows: the even and the odd rows, turned by `r`, against what was there. -/
def turnMax (r : BitVec 32) (w : FVec Ideal S16x128 .bf16) : FVec Ideal S16x128 .bf16 :=
  maximumf w (interleaveRows S16x128
    (dynamicRotate 0 r none (rowsOfParity 0 S8x128 w bitcasts_S16x128_w16_S8x128_w32) rotates_S8x128_d0)
    (dynamicRotate 0 r none (rowsOfParity 1 S8x128 w bitcasts_S16x128_w16_S8x128_w32) rotates_S8x128_d0)
    bitcasts_S16x128_w16_S8x128_w32)

/-- The first row of one parity after the three steps of the fold. -/
def maxRow (p : Fin 2) (w : FVec Ideal S16x128 .bf16) : FVec Ideal S1x128 .bf16 :=
  extractStridedSlice S1x128 ![0, 0]
    (rowsOfParity p S8x128 (turnMax 1#32 (turnMax 2#32 (turnMax 4#32 w))) bitcasts_S16x128_w16_S8x128_w32)
    slices_S8x128_o0_0_S1x128

/-- A tile of 128 tokens and 128 columns. -/
def tile (G : Vec Ideal S512x2048 .f32) (o : Nat × Nat)
    (h : ∀ a, (![o.1, o.2] : Fin 2 → Nat) a + (![128, 128] : Fin 2 → Nat) a ≤ S512x2048.size a) : Vec Ideal S128x128 .f32 :=
  fun j => G ((Rect.unit (s := S512x2048) ![o.1, o.2] ![128, 128] h).idx j)

/-- The tiles lie inside the block. -/
theorem tile_inside (a b : Nat) (ha : a ≤ 384) (hb : b ≤ 1920) :
    ∀ d, (![a, b] : Fin 2 → Nat) d + (![128, 128] : Fin 2 → Nat) d ≤ S512x2048.size d := by
  intro d
  fin_cases d
  · show a + 128 ≤ 512
    omega
  · show b + 128 ≤ 2048
    omega

/-- The pair of tiles of group `g` at columns `128·n` packed. -/
def packed (G : Vec Ideal S512x2048 .f32) (g : Fin 2) (n : Fin 16) : FVec Ideal S256x128 .bf16 :=
  k0_pay46 (F := Ideal) (tile G (256 * g.val, 128 * n.val) (tile_inside _ _ (by omega) (by omega)))
    (tile G (256 * g.val + 128, 128 * n.val) (tile_inside _ _ (by omega) (by omega)))

/-- The row of largest magnitudes of the 64 columns number `j`. -/
def largest (G : Vec Ideal S512x2048 .f32) (g : Fin 2) (p : Fin 2) (j : Fin 32) : FVec Ideal S1x128 .bf16 :=
  if j.val % 2 = 0 then maxRow p (frontMax (packed G g ⟨j.val / 2, by omega⟩)) else maxRow p (backMax (packed G g ⟨j.val / 2, by omega⟩))

/-- Thirty-two rows stack to a block of thirty-two. -/
theorem rows_concatenate (f : Fin 32 → FVec Ideal S1x128 .bf16) :
    Shape.Concatenates ((List.ofFn fun j : Fin 32 => (⟨S1x128, f j⟩ : (s : Shape) × (s.Idx → Ideal .bf16))).map (·.1)) S32x128 0 := by
  rw [List.map_ofFn]
  exact (by decide : Shape.Concatenates (List.ofFn fun _ : Fin 32 => S1x128) S32x128 0)

/-- The rows of largest magnitudes, one under another. -/
def largests (G : Vec Ideal S512x2048 .f32) (g : Fin 2) (p : Fin 2) : FVec Ideal S32x128 .bf16 :=
  concatenate S32x128 0 (List.ofFn fun j : Fin 32 => (⟨S1x128, largest G g p j⟩ : (s : Shape) × (s.Idx → Ideal .bf16))) (rows_concatenate _)

/-- The exponents counted from the largest magnitudes. -/
def exponents (w : FVec Ideal S32x128 .bf16) : IVec S32x128 32 :=
  Scf.fold (fun k acc => k0_pay208 (F := Ideal) w k acc) k0_pay207

/-- The scales stored for one quarter of the block. -/
def scalesOf (w : FVec Ideal S32x128 .bf16) : FVec Ideal S1x32x128 .f32 :=
  k0_pay210 (F := Ideal) (k0_pay205 (exponents w))

/-- Stores that leave `G` everywhere make the buffer `G`. -/
theorem canon_eq_of (G : S512x2048.Idx → Elt Ideal .f32) (L : List (View.Piece (Elt Ideal) S512x2048 .f32))
    (h : ∀ y, View.canon L y = G y) : View.canon L = G := funext h

/-- The block of token gradients as the scratch holds it. -/
def blockHidden (g : FVec Ideal S512x128 .f32) (wt : Vec Ideal S128x2048 .bf16) (x5 : Vec Ideal S1x512x2048 .bf16) : Vec Ideal S512x2048 .f32 :=
  fun y => (∑ k : Fin 128, g (ix2 (y 0) k) * wt (ix2 k (y 1))) + x5 (ix3 0 (y 0) (y 1))

/-- A piece of the scratch holds its columns of the block of token gradients. -/
theorem scratch_piece_at (g : FVec Ideal S512x128 .f32) (wt : Vec Ideal S128x2048 .bf16) (x5 : Vec Ideal S1x512x2048 .bf16) (o : Nat)
    (hw : ∀ a, (![0, o] : Fin 2 → Nat) a + (![128, 256] : Fin 2 → Nat) a ≤ S128x2048.size a)
    (hx : ∀ a, (![0, 0, o] : Fin 3 → Nat) a + (![1, 512, 256] : Fin 3 → Nat) a ≤ S1x512x2048.size a)
    (x : S512x256.Idx) (y : S512x2048.Idx) (h0 : (y 0).val = (x 0).val) (h1 : (y 1).val = o + (x 1).val) :
    k0_pay20 g (View.ld wt (Rect.unit ![0, o] ![128, 256] hw)) (View.ld x5 (Rect.unit ![0, 0, o] ![1, 512, 256] hx)) x
      = blockHidden g wt x5 y := by
  unfold blockHidden
  pointwise [k0_pay20, k0_pay18, k0_pay17]
  refine congrArg₂ (· + ·) (Finset.sum_congr rfl fun k _ => congrArg₂ (· * ·) (congrArg g ?_) (congrArg wt ?_)) (congrArg x5 ?_)
  all_goals blk_ext

/-- The scales stored at a point, from the block of token gradients. -/
def blockScales (G : Vec Ideal S512x2048 .f32) (y : S1x32x512.Idx) : Ideal .f32 :=
  scalesOf (largests G ⟨(y 2).val / 256, by have := (y 2).isLt; change _ < 512 at this; omega⟩
    ⟨(y 2).val / 128 % 2, by omega⟩) (ix3 0 (y 1) ⟨(y 2).val % 128, by omega⟩)

/-- A quarter of the stored scales, at its place in the block. -/
theorem quarter_at (G : Vec Ideal S512x2048 .f32) (g p : Fin 2) (x : S1x32x128.Idx) (y : S1x32x512.Idx)
    (h1 : (y 1).val = (x 1).val) (h2 : (y 2).val = 256 * g.val + 128 * p.val + (x 2).val) :
    scalesOf (largests G g p) x = blockScales G y := by
  have hx := (x 2).isLt
  change _ < 128 at hx
  unfold blockScales
  congr 2
  · apply Fin.ext
    show g.val = (y 2).val / 256
    omega
  · apply Fin.ext
    show p.val = (y 2).val / 128 % 2
    omega
  · blk_ext

end Cert.Proof

end
-- ==== Proof.QuantValue.lean ====
module

public import proofs.«01_k».proof.Proof.Quantiser

@[expose] public section

noncomputable section

namespace Cert.Proof

open Idealize.ShloMosaic Cert.KernelIdeal Cert.KernelIdeal.Gen

/-! The quantiser's scales at an index: the largest magnitude of 64 columns and the power of two counted from it. -/

/-- The constant the kernel multiplies by before it counts. -/
def probe : EReal := Ideal.ofBits .f32 1058144257#32

/-- The fold over the slices of the first 128 rows bounds each of them. -/
theorem frontMax_le (v : FVec Ideal S256x128 .bf16) (ρ : Fin 16) (l : Fin 128) (z : EReal) :
    frontMax v (ix2 ρ l) ≤ z ↔ ∀ k : Fin 8, v (ix2 ⟨16 * k.val + ρ.val, by omega⟩ l) ≤ z := by
  unfold frontMax
  pointwise
  simp only [max_le_iff, Fin.forall_fin_succ, Fin.forall_fin_zero, and_assoc, and_true]
  refine Iff.of_eq (congr (congrArg And (congrArg (· ≤ z) (congrArg v (by blk_ext)))) ?_)
  rfl

/-- The fold over the slices of the last 128 rows bounds each of them. -/
theorem backMax_le (v : FVec Ideal S256x128 .bf16) (ρ : Fin 16) (l : Fin 128) (z : EReal) :
    backMax v (ix2 ρ l) ≤ z ↔ ∀ k : Fin 8, v (ix2 ⟨128 + 16 * k.val + ρ.val, by omega⟩ l) ≤ z := by
  unfold backMax
  pointwise
  simp only [max_le_iff, Fin.forall_fin_succ, Fin.forall_fin_zero, and_assoc, and_true]
  rfl

/-- The three turns bring all eight rows of a parity to its first row. -/
theorem maxRow_le (p : Fin 2) (w : FVec Ideal S16x128 .bf16) (l : Fin 128) (z : EReal) :
    maxRow p w (ix2 0 l) ≤ z ↔ ∀ a : Fin 8, w (ix2 ⟨2 * a.val + p.val, by omega⟩ l) ≤ z := by
  unfold maxRow
  fin_cases p
  all_goals
    pointwise [turnMax]
    simp only [max_le_iff, Fin.forall_fin_succ, Fin.forall_fin_zero, and_true]
    constructor
    · intro h
      simp at h ⊢
      tauto
    · intro h
      simp at h ⊢
      tauto

/-- A packed pair at an index: the rows of even number are of the first tile, those of odd number of the second. -/
theorem packed_at (G : Vec Ideal S512x2048 .f32) (g : Fin 2) (n : Fin 16) (p : Fin 2) (q : Fin 128) (l : Fin 128)
    (ρ : Fin 256) (hρ : ρ.val = 2 * q.val + p.val) :
    packed G g n (ix2 ρ l) = FloatOps.absf (F := Ideal) (φ := .f32)
      (G (ix2 ⟨256 * g.val + 128 * p.val + l.val, by omega⟩ ⟨128 * n.val + q.val, by omega⟩) * probe) := by
  unfold packed
  pointwise [k0_pay46, k0_pay45]
  have e : ρ.val / 2 = q.val := by omega
  have hp : p = 0 ∨ p = 1 := by omega
  rcases hp with rfl | rfl
  · rw [if_pos (by rw [hρ]; show (2 * q.val + 0) % 2 = 0; omega)]
    refine congrArg (fun x => FloatOps.absf (F := Ideal) (φ := .f32) (x * probe)) (congrArg G ?_)
    funext d
    apply Fin.ext
    fin_cases d
    · show 256 * g.val + 1 * l.val = 256 * g.val + 128 * 0 + l.val
      omega
    · show 128 * n.val + 1 * (ρ.val / 2) = 128 * n.val + q.val
      omega
  · rw [if_neg (by rw [hρ]; show ¬(2 * q.val + 1) % 2 = 0; omega)]
    refine congrArg (fun x => FloatOps.absf (F := Ideal) (φ := .f32) (x * probe)) (congrArg G ?_)
    funext d
    apply Fin.ext
    fin_cases d
    · show 256 * g.val + 128 + 1 * l.val = 256 * g.val + 128 * 1 + l.val
      omega
    · show 128 * n.val + 1 * (ρ.val / 2) = 128 * n.val + q.val
      omega

/-- A row of largest magnitudes bounds each of its 64 columns and nothing less does. -/
theorem largest_le (G : Vec Ideal S512x2048 .f32) (g p : Fin 2) (j : Fin 32) (l : Fin 128) (z : EReal) :
    largest G g p j (ix2 0 l) ≤ z ↔ ∀ r : Fin 64, FloatOps.absf (F := Ideal) (φ := .f32)
      (G (ix2 ⟨256 * g.val + 128 * p.val + l.val, by omega⟩ ⟨64 * j.val + r.val, by omega⟩) * probe) ≤ z := by
  unfold largest
  by_cases hj : j.val % 2 = 0
  · rw [if_pos hj, maxRow_le]
    simp only [frontMax_le]
    constructor
    · intro h r
      refine le_trans (le_of_eq ?_) (h ⟨r.val % 8, by omega⟩ ⟨r.val / 8, by omega⟩)
      rw [packed_at G g ⟨j.val / 2, by omega⟩ p ⟨r.val, by omega⟩ l _ (by show 16 * (r.val / 8) + (2 * (r.val % 8) + p.val) = 2 * r.val + p.val; omega)]
      refine congrArg (fun x => FloatOps.absf (F := Ideal) (φ := .f32) (x * probe)) (congrArg G (congrArg (ix2 _) (Fin.ext ?_)))
      show 64 * j.val + r.val = 128 * (j.val / 2) + r.val
      omega
    · intro h a k
      refine le_trans (le_of_eq ?_) (h ⟨8 * k.val + a.val, by omega⟩)
      rw [packed_at G g ⟨j.val / 2, by omega⟩ p ⟨8 * k.val + a.val, by omega⟩ l _ (by show 16 * k.val + (2 * a.val + p.val) = 2 * (8 * k.val + a.val) + p.val; omega)]
      refine congrArg (fun x => FloatOps.absf (F := Ideal) (φ := .f32) (x * probe)) (congrArg G (congrArg (ix2 _) (Fin.ext ?_)))
      show 128 * (j.val / 2) + (8 * k.val + a.val) = 64 * j.val + (8 * k.val + a.val)
      omega
  · rw [if_neg hj, maxRow_le]
    simp only [backMax_le]
    constructor
    · intro h r
      refine le_trans (le_of_eq ?_) (h ⟨r.val % 8, by omega⟩ ⟨r.val / 8, by omega⟩)
      rw [packed_at G g ⟨j.val / 2, by omega⟩ p ⟨64 + r.val, by omega⟩ l _ (by show 128 + 16 * (r.val / 8) + (2 * (r.val % 8) + p.val) = 2 * (64 + r.val) + p.val; omega)]
      refine congrArg (fun x => FloatOps.absf (F := Ideal) (φ := .f32) (x * probe)) (congrArg G (congrArg (ix2 _) (Fin.ext ?_)))
      show 64 * j.val + r.val = 128 * (j.val / 2) + (64 + r.val)
      omega
    · intro h a k
      refine le_trans (le_of_eq ?_) (h ⟨8 * k.val + a.val, by omega⟩)
      rw [packed_at G g ⟨j.val / 2, by omega⟩ p ⟨64 + 8 * k.val + a.val, by omega⟩ l _ (by show 128 + 16 * k.val + (2 * a.val + p.val) = 2 * (64 + 8 * k.val + a.val) + p.val; omega)]
      refine congrArg (fun x => FloatOps.absf (F := Ideal) (φ := .f32) (x * probe)) (congrArg G (congrArg (ix2 _) (Fin.ext ?_)))
      show 128 * (j.val / 2) + (64 + 8 * k.val + a.val) = 64 * j.val + (8 * k.val + a.val)
      omega

/-- The largest scaled magnitude of a token's 64 columns number `j`. -/
def peak (G : Vec Ideal S512x2048 .f32) (t : Fin 512) (j : Fin 32) : EReal :=
  Finset.univ.sup fun r : Fin 64 => FloatOps.absf (F := Ideal) (φ := .f32) (G (ix2 t ⟨64 * j.val + r.val, by omega⟩) * probe)

/-- The stacked rows hold the largest scaled magnitudes. -/
theorem largests_at (G : Vec Ideal S512x2048 .f32) (g p : Fin 2) (j : Fin 32) (l : Fin 128) :
    largests G g p (ix2 j l) = peak G ⟨256 * g.val + 128 * p.val + l.val, by omega⟩ j := by
  have e : largests G g p (ix2 j l) = largest G g p j (ix2 0 l) := by
    unfold largests
    pointwise
  rw [e]
  refine eq_of_forall_ge_iff fun z => ?_
  rw [largest_le]
  unfold peak
  rw [Finset.sup_le_iff]
  simp

/-- The number of powers of two that a magnitude reaches, as a word. -/
def exponentOf (X : EReal) : BitVec 32 :=
  (List.finRange k0_t2_loop.trips).foldl
    (fun a (k : Fin k0_t2_loop.trips) => IntOp.addi a (if X < Ideal.ofBits .f32 (Scalar.shli (Scf.iv 1#32 1#32 k.val) 23#32) then 0#32 else 1#32)) 0#32

/-- The word of the scale's exponent. -/
def scaleExponent (X : EReal) : BitVec 32 :=
  Scalar.select (IntOp.cmpi .sge (IntOp.subi (exponentOf X) 7#32) 2#32) (IntOp.subi (exponentOf X) 7#32) 127#32

/-- The exponents at an index. -/
theorem exponents_at (w : FVec Ideal S32x128 .bf16) (j : Fin 32) (l : Fin 128) : exponents w (ix2 j l) = exponentOf (w (ix2 j l)) := by
  unfold exponents exponentOf
  rw [Scf.fold_eq]
  refine (List.foldl_hom (fun v : IVec S32x128 32 => v (ix2 j l)) (init := k0_pay207) fun v k => ?_).symm
  pointwise [k0_pay208]

/-- The stored scales at an index. -/
theorem scalesOf_at (w : FVec Ideal S32x128 .bf16) (j : Fin 32) (l : Fin 128) :
    scalesOf w (ix3 0 j l) = Ideal.ofBits .f32 (IntOp.shli .vector (scaleExponent (w (ix2 j l))) 23#32) := by
  unfold scalesOf
  pointwise [k0_pay210, k0_pay205, k0_pay204]
  rw [exponents_at]
  rfl

/-- The scales a point stores, at an index. -/
theorem blockScales_at (G : Vec Ideal S512x2048 .f32) (y : S1x32x512.Idx) :
    blockScales G y = Ideal.ofBits .f32 (IntOp.shli .vector (scaleExponent (peak G (y 2) (y 1))) 23#32) := by
  unfold blockScales
  refine (scalesOf_at _ _ _).trans ?_
  refine congrArg (fun X => Ideal.ofBits .f32 (IntOp.shli .vector (scaleExponent X) 23#32)) ((largests_at _ _ _ _ _).trans ?_)
  refine congrArg (fun t => peak G t (y 1)) (Fin.ext ?_)
  have := (y 2).isLt
  change _ < 512 at this
  show 256 * ((y 2).val / 256) + 128 * ((y 2).val / 128 % 2) + (y 2).val % 128 = (y 2).val
  omega

end Cert.Proof

end
-- ==== Proof.QuantCodes.lean ====
module

public import proofs.«01_k».proof.Proof.QuantValue

@[expose] public section

noncomputable section

namespace Cert.Proof

open Idealize.ShloMosaic Cert.KernelIdeal Cert.KernelIdeal.Gen

/-! The codes a point stores: the block of token gradients times the reciprocal scales, clipped. -/

/-- The reciprocal scales of a group of 256 tokens: two half words, of the token and of the one 128 further. -/
def reciprocals (G : Vec Ideal S512x2048 .f32) (g : Fin 2) : IVec S32x128 32 :=
  k0_pay212 (k0_pay206 (exponents (largests G g 0))) (exponents (largests G g 1))

/-- A row among thirty-two is a slice. -/
theorem row_slices (o : Nat) (h : o < 32) : S32x128.Slices ![o, 0] S1x128 := by
  have key : ∀ o : Fin 32, S32x128.Slices ![o.val, 0] S1x128 := by decide
  exact key ⟨o, h⟩

/-- Two rows of reciprocal scales, each along 64 columns. -/
def spread (d : IVec S32x128 32) (n : Fin 16) : IVec S128x128 32 :=
  transpose S128x128 [1, 0]
    (concatenate S128x128 0
      [⟨S64x128, broadcastTo S64x128 (shapeCast S1x128 (extractStridedSlice S1x128 ![2 * n.val, 0] d
          (row_slices _ (by omega))) shapeCasts_S1x128_S1x128) broadcasts_S1x128_S64x128⟩,
        ⟨S64x128, broadcastTo S64x128 (shapeCast S1x128 (extractStridedSlice S1x128 ![2 * n.val + 1, 0] d
          (row_slices _ (by omega))) shapeCasts_S1x128_S1x128) broadcasts_S1x128_S64x128⟩]
      concatenates_S64x128_S64x128_S128x128_d0)
    transposes_S128x128_p1_0_S128x128

/-- The half of the words that is of tokens number `p`, as a float's word. -/
def half (w : IVec S128x128 32) (p : Fin 2) : IVec S128x128 32 :=
  if p.val = 0 then shli w (broadcast S128x128 16#32) else andi w (broadcast S128x128 4294901760#32)

/-- The codes of 128 tokens and 128 columns. -/
def codesOf (G : Vec Ideal S512x2048 .f32) (g p : Fin 2) (n : Fin 16) : FVec Ideal S1x128x128 .fp8e4m3 :=
  k0_pay1 (F := Ideal)
    (mulf (tile G (256 * g.val + 128 * p.val, 128 * n.val) (tile_inside _ _ (by omega) (by omega)))
      (bitcastToFloat .f32 (half (spread (reciprocals G g) n) p)))
    (Scalar.ofBits .f32 0xC3E00000#32) (Scalar.ofBits .f32 0x43E00000#32)

/-- The pieces lie inside the block. -/
theorem piece_inside (a b : Nat) (ha : a ≤ 384) (hb : b ≤ 1920) :
    ∀ d, (![0, a, b] : Fin 3 → Nat) d + (![1, 128, 128] : Fin 3 → Nat) d ≤ S1x512x2048.size d := by
  intro d
  fin_cases d
  · show 0 + 1 ≤ 1
    omega
  · show a + 128 ≤ 512
    omega
  · show b + 128 ≤ 2048
    omega

/-- One store of codes. -/
def codePiece (G : Vec Ideal S512x2048 .f32) (g p : Fin 2) (n : Fin 16) : View.Piece (Elt Ideal) S1x512x2048 .fp8e4m3 :=
  ⟨Rect.unit ![0, 256 * g.val + 128 * p.val, 128 * n.val] ![1, 128, 128] (piece_inside _ _ (by omega) (by omega)), codesOf G g p n⟩

/-- The stores of codes, the last first. -/
def codePieces (G : Vec Ideal S512x2048 .f32) : List (View.Piece (Elt Ideal) S1x512x2048 .fp8e4m3) :=
  List.ofFn fun k : Fin 64 => codePiece G ⟨(63 - k.val) / 32, by omega⟩ ⟨(63 - k.val) % 2, by omega⟩ ⟨(63 - k.val) / 2 % 16, by omega⟩

/-- The codes stored at a point, from the block of token gradients. -/
def blockCodes (G : Vec Ideal S512x2048 .f32) (y : S1x512x2048.Idx) : Ideal .fp8e4m3 :=
  codesOf G ⟨(y 1).val / 256, by have := (y 1).isLt; change _ < 512 at this; omega⟩ ⟨(y 1).val / 128 % 2, by omega⟩
    ⟨(y 2).val / 128, by have := (y 2).isLt; change _ < 2048 at this; omega⟩
    (ix3 0 ⟨(y 1).val % 128, by omega⟩ ⟨(y 2).val % 128, by omega⟩)

/-- A store of codes is a block of them. -/
theorem codePiece_at (G : Vec Ideal S512x2048 .f32) (g p : Fin 2) (n : Fin 16) (x : S1x128x128.Idx) (y : S1x512x2048.Idx)
    (h1 : (y 1).val = 256 * g.val + 128 * p.val + (x 1).val) (h2 : (y 2).val = 128 * n.val + (x 2).val) :
    codesOf G g p n x = blockCodes G y := by
  have hx1 := (x 1).isLt
  change (x 1).val < 128 at hx1
  have hx2 := (x 2).isLt
  change (x 2).val < 128 at hx2
  unfold blockCodes
  congr 1
  · apply Fin.ext
    show g.val = (y 1).val / 256
    omega
  · apply Fin.ext
    show p.val = (y 1).val / 128 % 2
    omega
  · apply Fin.ext
    show n.val = (y 2).val / 128
    omega
  · blk_ext

/-- A store of codes is a block of them, at the places it writes. -/
theorem codePiece_emb (G : Vec Ideal S512x2048 .f32) (g p : Fin 2) (n : Fin 16) (x : (codePiece G g p n).1.shape.Idx) :
    (codePiece G g p n).2 x = blockCodes G ((codePiece G g p n).1.emb x) := by
  refine codePiece_at G g p n x _ ?_ ?_
  · show 256 * g.val + 128 * p.val + 1 * (x 1).val = _
    rw [Nat.one_mul]
  · show 128 * n.val + 1 * (x 2).val = _
    rw [Nat.one_mul]

/-- The places a store of codes writes. -/
theorem codePiece_mem (G : Vec Ideal S512x2048 .f32) (g p : Fin 2) (n : Fin 16) (y : S1x512x2048.Idx)
    (hg : g.val = (y 1).val / 256) (hp : p.val = (y 1).val / 128 % 2) (hn : n.val = (y 2).val / 128) : y ∈ (codePiece G g p n).1.set := by
  have hy0 := (y 0).isLt
  change (y 0).val < 1 at hy0
  have e : y = (codePiece G g p n).1.idx (ix3 0 ⟨(y 1).val % 128, by omega⟩ ⟨(y 2).val % 128, by omega⟩ : S1x128x128.Idx) := by
    funext d
    apply Fin.ext
    fin_cases d
    · show (y 0).val = 0 + 1 * 0
      omega
    · show (y 1).val = 256 * g.val + 128 * p.val + 1 * ((y 1).val % 128)
      omega
    · show (y 2).val = 128 * n.val + 1 * ((y 2).val % 128)
      omega
  rw [e]
  exact LoadRect.idx_mem _ _

/-- The stores of codes leave them in the block. -/
theorem codePieces_at (G : Vec Ideal S512x2048 .f32) (y : S1x512x2048.Idx) : View.canon (codePieces G) y = blockCodes G y := by
  have hy1 := (y 1).isLt
  change (y 1).val < 512 at hy1
  have hy2 := (y 2).isLt
  change (y 2).val < 2048 at hy2
  refine View.canon_apply_of_pieces (blockCodes G) (codePieces G) ?_ y ?_
  · intro q hq x
    obtain ⟨k, rfl⟩ := List.mem_ofFn.mp hq
    exact codePiece_emb G _ _ _ x
  · refine ⟨_, List.mem_ofFn.mpr ⟨⟨63 - (32 * ((y 1).val / 256) + 2 * ((y 2).val / 128) + (y 1).val / 128 % 2), by omega⟩, rfl⟩, ?_⟩
    refine codePiece_mem G _ _ _ y ?_ ?_ ?_
    · show (63 - (63 - (32 * ((y 1).val / 256) + 2 * ((y 2).val / 128) + (y 1).val / 128 % 2))) / 32 = (y 1).val / 256
      omega
    · show (63 - (63 - (32 * ((y 1).val / 256) + 2 * ((y 2).val / 128) + (y 1).val / 128 % 2))) % 2 = (y 1).val / 128 % 2
      omega
    · show (63 - (63 - (32 * ((y 1).val / 256) + 2 * ((y 2).val / 128) + (y 1).val / 128 % 2))) / 2 % 16 = (y 2).val / 128
      omega

end Cert.Proof

end
-- ==== Proof.QuantBody.lean ====
module

public import proofs.«01_k».proof.Proof.QuantCodes

@[expose] public section

noncomputable section

namespace Cert.Proof

open Idealize.ShloMosaic Cert.KernelIdeal Cert.KernelIdeal.Gen

/-! The scales and the codes stored at a point, read from the block of token gradients the point holds. -/

set_option maxRecDepth 100000
set_option maxHeartbeats 8000000

variable (c : Dev nD) (i : grid0.Coords) (arg2 : Memref sig .tc .vmem S24x512 .f32) (harg2 : arg2.IsWhole) (arg3 : Memref sig .tc .vmem S1x512x2048 .fp8e4m3) (harg3 : arg3.IsWhole) (arg4 : Memref sig .tc .vmem S2048x128 .bf16) (harg4 : arg4.IsWhole) (arg5 : Memref sig .tc .vmem S1x8x512 .i32) (harg5 : arg5.IsWhole) (arg6 : Memref sig .tc .vmem S1x8x512 .bf16) (harg6 : arg6.IsWhole) (arg7 : Memref sig .tc .vmem S1x512x2048 .bf16) (harg7 : arg7.IsWhole) (arg8 : Memref sig .tc .vmem S1x512x2048 .bf16) (harg8 : arg8.IsWhole) (arg9 : Memref sig .tc .vmem S2048x128 .f32) (harg9 : arg9.IsWhole) (arg10 : Memref sig .tc .vmem S1x512x128 .f32) (harg10 : arg10.IsWhole) (arg11 : Memref sig .tc .vmem S1x512x2048 .fp8e4m3) (harg11 : arg11.IsWhole) (arg12 : Memref sig .tc .vmem S1x32x512 .f32) (harg12 : arg12.IsWhole) (arg13 : Memref sig .tc .vmem S128x2048 .bf16) (harg13 : arg13.IsWhole) (arg14 : Memref sig .tc .vmem S128x2048 .f32) (harg14 : arg14.IsWhole) (arg15 : Memref sig .tc .vmem S512x2048 .f32) (harg15 : arg15.IsWhole)
  (x0 : Vec Ideal S24x512 .f32) (x1 : Vec Ideal S1x512x2048 .fp8e4m3) (x2 : Vec Ideal S2048x128 .bf16) (x3 : Vec Ideal S1x8x512 .i32) (x4 : Vec Ideal S1x8x512 .bf16) (x5 : Vec Ideal S1x512x2048 .bf16)

/-- At the first point, the scales stored. -/
theorem out0_A_10_at (hc0 : cond0_0 i) (hc1 : ¬cond0_1 i) (h : RowOk i) (y : S1x32x512.Idx) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 y
      = blockScales (blockHidden (blockGradT (rowOf i h x0) x1 x3 x4 (k0_pay3 x2)) (k0_pay3 x2) x5) y := by
  frame_open
  simp (disch := decide) only [↓ View.readCov_fill]
  simp only [View.readCov_eq_canon']
  rw [canon_eq_of (blockHidden (blockGradT (rowOf i h x0) x1 x3 x4 (k0_pay3 x2)) (k0_pay3 x2) x5)]
  · frame_out
    canon_tiles x h
    · exact Eq.trans (b := scalesOf (largests (blockHidden (blockGradT (rowOf i h x0) x1 x3 x4 (k0_pay3 x2)) (k0_pay3 x2) x5) 1 1) x) rfl
        (quarter_at _ 1 1 x y h1 (by omega))
    · exact Eq.trans (b := scalesOf (largests (blockHidden (blockGradT (rowOf i h x0) x1 x3 x4 (k0_pay3 x2)) (k0_pay3 x2) x5) 1 0) x) rfl
        (quarter_at _ 1 0 x y h1 (by omega))
    · exact Eq.trans (b := scalesOf (largests (blockHidden (blockGradT (rowOf i h x0) x1 x3 x4 (k0_pay3 x2)) (k0_pay3 x2) x5) 0 1) x) rfl
        (quarter_at _ 0 1 x y h1 (by omega))
    · exact Eq.trans (b := scalesOf (largests (blockHidden (blockGradT (rowOf i h x0) x1 x3 x4 (k0_pay3 x2)) (k0_pay3 x2) x5) 0 0) x) rfl
        (quarter_at _ 0 0 x y h1 (by omega))
  · intro y
    frame_out
    canon_tiles x h
    all_goals exact scratch_piece_at (blockGradT (rowOf i h x0) x1 x3 x4 (k0_pay3 x2)) (k0_pay3 x2) x5 _ _ _ x y (by omega) (by omega)

/-- At the first point, the codes stored. -/
theorem out0_A_9_at (hc0 : cond0_0 i) (hc1 : ¬cond0_1 i) (h : RowOk i) (y : S1x512x2048.Idx) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 y
      = blockCodes (blockHidden (blockGradT (rowOf i h x0) x1 x3 x4 (k0_pay3 x2)) (k0_pay3 x2) x5) y := by
  frame_open
  simp (disch := decide) only [↓ View.readCov_fill]
  simp only [View.readCov_eq_canon']
  rw [canon_eq_of (blockHidden (blockGradT (rowOf i h x0) x1 x3 x4 (k0_pay3 x2)) (k0_pay3 x2) x5)]
  · frame_out
    exact Eq.trans (b := View.canon (codePieces (blockHidden (blockGradT (rowOf i h x0) x1 x3 x4 (k0_pay3 x2)) (k0_pay3 x2) x5)) y) rfl (codePieces_at _ y)
  · intro y
    frame_out
    canon_tiles x h
    all_goals exact scratch_piece_at (blockGradT (rowOf i h x0) x1 x3 x4 (k0_pay3 x2)) (k0_pay3 x2) x5 _ _ _ x y (by omega) (by omega)

/-- At a middle point, the scales stored. -/
theorem out0_B_10_at (hc0 : ¬cond0_0 i) (hc1 : ¬cond0_1 i) (xs0 : Vec Ideal S128x2048 .bf16) (xs1 : Vec Ideal S128x2048 .f32) (h : RowOk i) (y : S1x32x512.Idx) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 y
      = blockScales (blockHidden (blockGradT (rowOf i h x0) x1 x3 x4 xs0) xs0 x5) y := by
  frame_open
  simp (disch := decide) only [↓ View.readCov_fill]
  simp only [View.readCov_eq_canon']
  rw [canon_eq_of (blockHidden (blockGradT (rowOf i h x0) x1 x3 x4 xs0) xs0 x5)]
  · frame_out
    canon_tiles x h
    · exact Eq.trans (b := scalesOf (largests (blockHidden (blockGradT (rowOf i h x0) x1 x3 x4 xs0) xs0 x5) 1 1) x) rfl
        (quarter_at _ 1 1 x y h1 (by omega))
    · exact Eq.trans (b := scalesOf (largests (blockHidden (blockGradT (rowOf i h x0) x1 x3 x4 xs0) xs0 x5) 1 0) x) rfl
        (quarter_at _ 1 0 x y h1 (by omega))
    · exact Eq.trans (b := scalesOf (largests (blockHidden (blockGradT (rowOf i h x0) x1 x3 x4 xs0) xs0 x5) 0 1) x) rfl
        (quarter_at _ 0 1 x y h1 (by omega))
    · exact Eq.trans (b := scalesOf (largests (blockHidden (blockGradT (rowOf i h x0) x1 x3 x4 xs0) xs0 x5) 0 0) x) rfl
        (quarter_at _ 0 0 x y h1 (by omega))
  · intro y
    frame_out
    canon_tiles x h
    all_goals exact scratch_piece_at (blockGradT (rowOf i h x0) x1 x3 x4 xs0) xs0 x5 _ _ _ x y (by omega) (by omega)

/-- At a middle point, the codes stored. -/
theorem out0_B_9_at (hc0 : ¬cond0_0 i) (hc1 : ¬cond0_1 i) (xs0 : Vec Ideal S128x2048 .bf16) (xs1 : Vec Ideal S128x2048 .f32) (h : RowOk i) (y : S1x512x2048.Idx) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 y
      = blockCodes (blockHidden (blockGradT (rowOf i h x0) x1 x3 x4 xs0) xs0 x5) y := by
  frame_open
  simp (disch := decide) only [↓ View.readCov_fill]
  simp only [View.readCov_eq_canon']
  rw [canon_eq_of (blockHidden (blockGradT (rowOf i h x0) x1 x3 x4 xs0) xs0 x5)]
  · frame_out
    exact Eq.trans (b := View.canon (codePieces (blockHidden (blockGradT (rowOf i h x0) x1 x3 x4 xs0) xs0 x5)) y) rfl (codePieces_at _ y)
  · intro y
    frame_out
    canon_tiles x h
    all_goals exact scratch_piece_at (blockGradT (rowOf i h x0) x1 x3 x4 xs0) xs0 x5 _ _ _ x y (by omega) (by omega)

/-- At the last point, the scales stored. -/
theorem out0_C_10_at (hc0 : ¬cond0_0 i) (hc1 : cond0_1 i) (xs0 : Vec Ideal S128x2048 .bf16) (xs1 : Vec Ideal S128x2048 .f32) (h : RowOk i) (y : S1x32x512.Idx) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 y
      = blockScales (blockHidden (blockGradT (rowOf i h x0) x1 x3 x4 xs0) xs0 x5) y := by
  frame_open
  simp (disch := decide) only [↓ View.readCov_fill]
  simp only [View.readCov_eq_canon']
  rw [canon_eq_of (blockHidden (blockGradT (rowOf i h x0) x1 x3 x4 xs0) xs0 x5)]
  · frame_out
    canon_tiles x h
    · exact Eq.trans (b := scalesOf (largests (blockHidden (blockGradT (rowOf i h x0) x1 x3 x4 xs0) xs0 x5) 1 1) x) rfl
        (quarter_at _ 1 1 x y h1 (by omega))
    · exact Eq.trans (b := scalesOf (largests (blockHidden (blockGradT (rowOf i h x0) x1 x3 x4 xs0) xs0 x5) 1 0) x) rfl
        (quarter_at _ 1 0 x y h1 (by omega))
    · exact Eq.trans (b := scalesOf (largests (blockHidden (blockGradT (rowOf i h x0) x1 x3 x4 xs0) xs0 x5) 0 1) x) rfl
        (quarter_at _ 0 1 x y h1 (by omega))
    · exact Eq.trans (b := scalesOf (largests (blockHidden (blockGradT (rowOf i h x0) x1 x3 x4 xs0) xs0 x5) 0 0) x) rfl
        (quarter_at _ 0 0 x y h1 (by omega))
  · intro y
    frame_out
    canon_tiles x h
    all_goals exact scratch_piece_at (blockGradT (rowOf i h x0) x1 x3 x4 xs0) xs0 x5 _ _ _ x y (by omega) (by omega)

/-- At the last point, the codes stored. -/
theorem out0_C_9_at (hc0 : ¬cond0_0 i) (hc1 : cond0_1 i) (xs0 : Vec Ideal S128x2048 .bf16) (xs1 : Vec Ideal S128x2048 .f32) (h : RowOk i) (y : S1x512x2048.Idx) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 y
      = blockCodes (blockHidden (blockGradT (rowOf i h x0) x1 x3 x4 xs0) xs0 x5) y := by
  frame_open
  simp (disch := decide) only [↓ View.readCov_fill]
  simp only [View.readCov_eq_canon']
  rw [canon_eq_of (blockHidden (blockGradT (rowOf i h x0) x1 x3 x4 xs0) xs0 x5)]
  · frame_out
    exact Eq.trans (b := View.canon (codePieces (blockHidden (blockGradT (rowOf i h x0) x1 x3 x4 xs0) xs0 x5)) y) rfl (codePieces_at _ y)
  · intro y
    frame_out
    canon_tiles x h
    all_goals exact scratch_piece_at (blockGradT (rowOf i h x0) x1 x3 x4 xs0) xs0 x5 _ _ _ x y (by omega) (by omega)

end Cert.Proof

end
-- ==== Proof.QuantPoints.lean ====
module

public import proofs.«01_k».proof.Proof.QuantBody
public import proofs.«01_k».proof.Proof.Arrays

@[expose] public section

noncomputable section

/-! What the kernel's arrays of codes and scales hold after the run, as the quantiser of the points' token gradients. -/

namespace Cert.Proof

open Idealize.ShloMosaic Idealize.ShloMosaic.TcCoe Cert.KernelIdeal Cert.KernelIdeal.Gen

variable (m : (ℓ : Loc nD τ sig) → Buf (Elt Ideal) ℓ) (c : Dev nD)

/-- The token gradients of point `t`. -/
def pointHidden (t : Fin cfg0.N) : Vec Ideal S512x2048 .f32 := fun y => hiddenAt m c (batchOf t) (tokenOf t (y 0)) (y 1)

/-- They are what the point computes, whenever the first scratch holds the transposed weights. -/
theorem blockHidden_point (t : Fin cfg0.N) (wt : Vec Ideal S128x2048 .bf16)
    (hw : ∀ (e : Fin 128) (d : Fin 2048), wt (ix2 e d) = argW m c (ix2 d e)) :
    blockHidden (blockGradT (rowOf (grid0.coords t) (rowOk _) (iblk m c 0 t)) (iblk m c 1 t) (iblk m c 3 t) (iblk m c 4 t) wt) wt (iblk m c 5 t)
      = pointHidden m c t := by
  funext y
  obtain ⟨s, d, rfl⟩ : ∃ (s : Fin 512) (d : Fin 2048), y = ix2 s d := ⟨_, _, eq_ix2 y⟩
  unfold blockHidden pointHidden hiddenAt
  refine congrArg₂ (· + ·) (Finset.sum_congr rfl fun k _ => congrArg₂ (· * ·) ?_ (hw k d)) (read_residual m c t s d)
  exact (blockGradT_at _ _ _ _ _ s k).trans (tokenGrad_at m c t wt hw s k)

/-- The block of scales after point `t`. -/
theorem scales_after (t : Fin cfg0.N) (n : Fin 32) (s : Fin 512) :
    (outsAt0 m c t.val t.isLt).2.2.2.2.1 (ix3 0 n s) = blockScales (pointHidden m c t) (ix3 0 n s) := by
  by_cases h0 : t.val % 144 = 0
  · rw [outsAt0_A m c t h0 (by omega)]
    dsimp only
    rw [out0_A_10_at (h := rowOk _), blockHidden_point m c t _ (firstWeights m c t)]
  · by_cases h1 : t.val % 144 = 143
    · rw [outsAt0_C m c t h0 h1]
      dsimp only
      rw [out0_C_10_at (h := rowOk _), blockHidden_point m c t _ (held m c _ _)]
    · rw [outsAt0_B m c t h0 h1]
      dsimp only
      rw [out0_B_10_at (h := rowOk _), blockHidden_point m c t _ (held m c _ _)]

/-- The block of codes after point `t`. -/
theorem codes_after (t : Fin cfg0.N) (s : Fin 512) (d : Fin 2048) :
    (outsAt0 m c t.val t.isLt).2.2.2.1 (ix3 0 s d) = blockCodes (pointHidden m c t) (ix3 0 s d) := by
  by_cases h0 : t.val % 144 = 0
  · rw [outsAt0_A m c t h0 (by omega)]
    dsimp only
    rw [out0_A_9_at (h := rowOk _), blockHidden_point m c t _ (firstWeights m c t)]
  · by_cases h1 : t.val % 144 = 143
    · rw [outsAt0_C m c t h0 h1]
      dsimp only
      rw [out0_C_9_at (h := rowOk _), blockHidden_point m c t _ (held m c _ _)]
    · rw [outsAt0_B m c t h0 h1]
      dsimp only
      rw [out0_B_9_at (h := rowOk _), blockHidden_point m c t _ (held m c _ _)]

/-- The array of scales. -/
theorem scales_array (b : Fin 24) (n : Fin 32) (s : Fin 3072) :
    Value.G10 m c (ix3 b n s) = blockScales (pointHidden m c (pointOf b s)) (ix3 0 n ⟨s.val % 512, Nat.mod_lt _ (by decide)⟩) := by
  have hp : Value.pt10Of (ix3 b n s) = (pointOf b s).val := by
    show 1 * (b.val / 1 - 0) + 24 * (n.val / 32 - 0) + 24 * (s.val / 512 - 0) = 24 * (s.val / 512) + b.val
    omega
  have hl : Value.loc10Of (ix3 b n s) = ix3 0 n ⟨s.val % 512, Nat.mod_lt _ (by decide)⟩ := by
    funext a; apply Fin.ext
    match a with
    | ⟨0, _⟩ => show b.val % 1 = 0; omega
    | ⟨1, _⟩ => show n.val % 32 = n.val; omega
    | ⟨2, _⟩ => rfl
  unfold Value.G10
  rw [dif_pos (by rw [hp]; exact (pointOf b s).isLt), hl, Value.fold0_congr m c _ _ _ (by rw [Nat.zero_add]; exact (pointOf b s).isLt) hp, ← Value.outsAt0_sweep m c _ (pointOf b s).isLt,
    scales_after]

/-- The array of codes. -/
theorem codes_array (b : Fin 24) (s : Fin 3072) (d : Fin 2048) :
    Value.G9 m c (ix3 b s d) = blockCodes (pointHidden m c (pointOf b s)) (ix3 0 ⟨s.val % 512, Nat.mod_lt _ (by decide)⟩ d) := by
  have hp : Value.pt9Of (ix3 b s d) = (pointOf b s).val := by
    show 1 * (b.val / 1 - 0) + 24 * (s.val / 512 - 0) + 144 * (d.val / 2048 - 0) = 24 * (s.val / 512) + b.val
    omega
  have hl : Value.loc9Of (ix3 b s d) = ix3 0 ⟨s.val % 512, Nat.mod_lt _ (by decide)⟩ d := by
    funext a; apply Fin.ext
    match a with
    | ⟨0, _⟩ => show b.val % 1 = 0; omega
    | ⟨1, _⟩ => rfl
    | ⟨2, _⟩ => show d.val % 2048 = d.val; omega
  unfold Value.G9
  rw [dif_pos (by rw [hp]; exact (pointOf b s).isLt), hl, Value.fold0_congr m c _ _ _ (by rw [Nat.zero_add]; exact (pointOf b s).isLt) hp, ← Value.outsAt0_sweep m c _ (pointOf b s).isLt,
    codes_after]

end Cert.Proof

end
-- ==== Proof.CodeValue.lean ====
module

public import proofs.«01_k».proof.Proof.QuantCodes

@[expose] public section

noncomputable section

namespace Cert.Proof

open Idealize.ShloMosaic Cert.KernelIdeal Cert.KernelIdeal.Gen

/-! The codes a point stores, at an index. -/

/-- The word of a reciprocal scale. -/
def downWord (X : EReal) : BitVec 32 := IntOp.shli .vector (IntOp.subi 254#32 (scaleExponent X)) 23#32

/-- A word's low half cleared by two shifts. -/
theorem low_half (x y : BitVec 32) :
    IntOp.shli .vector (IntOp.ori (IntOp.shrui .vector (IntOp.shli .vector x 23#32) 16#32) (IntOp.shli .vector y 23#32)) 16#32 = IntOp.shli .vector x 23#32 := by
  show (((x <<< 23#32) >>> 16#32) ||| (y <<< 23#32)) <<< 16#32 = x <<< 23#32
  apply BitVec.eq_of_getLsbD_eq
  intro i hi
  by_cases h1 : i < 16
  · simp [h1, show i < 23 by omega]
  · by_cases h2 : i < 23
    · simp [h2, show 16 + (i - 16) = i by omega, show i - 16 < 23 by omega]
    · simp [h1, show 16 + (i - 16) = i by omega, show i - 16 < 23 by omega]
      exact fun h _ _ => h

/-- A word's low half cleared by a mask. -/
theorem high_half (x y : BitVec 32) :
    IntOp.andi (IntOp.ori (IntOp.shrui .vector (IntOp.shli .vector x 23#32) 16#32) (IntOp.shli .vector y 23#32)) 4294901760#32 = IntOp.shli .vector y 23#32 := by
  show (((x <<< 23#32) >>> 16#32) ||| (y <<< 23#32)) &&& 4294901760#32 = y <<< 23#32
  apply BitVec.eq_of_getLsbD_eq
  intro i hi
  have key : ∀ i : Fin 32, (4294901760#32).getLsbD i.val = decide (16 ≤ i.val) := by decide
  have k := key ⟨i, hi⟩
  simp only at k
  by_cases h1 : i < 16
  · simp [k, show ¬16 ≤ i by omega, show i < 23 by omega]
  · simp [k, show 16 ≤ i by omega, show ¬16 + i < 32 by omega]

/-- The packed reciprocal scales at an index. -/
theorem reciprocals_at (G : Vec Ideal S512x2048 .f32) (g : Fin 2) (j : Fin 32) (l : Fin 128) :
    reciprocals G g (ix2 j l) = IntOp.ori
      (IntOp.shrui .vector (downWord (largests G g 0 (ix2 j l))) 16#32) (downWord (largests G g 1 (ix2 j l))) := by
  unfold reciprocals
  generalize largests G g 0 = u
  generalize largests G g 1 = v
  have hu := exponents_at u j l
  have hv := exponents_at v j l
  generalize exponents u = eu at hu ⊢
  generalize exponents v = ev at hv ⊢
  pointwise [k0_pay212, k0_pay206, k0_pay209, k0_pay204]
  rw [hu, hv]
  rfl

/-- Two spread rows at an index. -/
theorem spread_at (d : IVec S32x128 32) (n : Fin 16) (l q : Fin 128) :
    spread d n (ix2 l q) = d (ix2 ⟨2 * n.val + q.val / 64, by omega⟩ l) := by
  unfold spread
  pointwise
  by_cases h : q.val < 64
  · rw [dif_pos h]
    refine congrArg (fun i => d (ix2 i l)) (Fin.ext ?_)
    show 2 * n.val = 2 * n.val + q.val / 64
    omega
  · rw [dif_neg h]
    refine congrArg (fun i => d (ix2 i l)) (Fin.ext ?_)
    show 2 * n.val + 1 = 2 * n.val + q.val / 64
    omega

/-- The half words are the words of the reciprocal scales. -/
theorem half_at (G : Vec Ideal S512x2048 .f32) (g p : Fin 2) (n : Fin 16) (l q : Fin 128) :
    half (spread (reciprocals G g) n) p (ix2 l q) = downWord (largests G g p (ix2 ⟨2 * n.val + q.val / 64, by omega⟩ l)) := by
  have e := (spread_at (reciprocals G g) n l q).trans (reciprocals_at G g _ l)
  generalize spread (reciprocals G g) n = w at e ⊢
  have hp : p = 0 ∨ p = 1 := by omega
  unfold half
  rcases hp with rfl | rfl
  · refine (congrFun (if_pos (show (0 : Fin 2).val = 0 from rfl)) _).trans ?_
    show IntOp.shli .vector (w (ix2 l q)) 16#32 = _
    rw [e]
    exact low_half _ _
  · refine (congrFun (if_neg (show ¬(1 : Fin 2).val = 0 by decide)) _).trans ?_
    show IntOp.andi (w (ix2 l q)) 4294901760#32 = _
    rw [e]
    exact high_half _ _

/-- The clipped product at an index. -/
theorem product_at (v : FVec Ideal S128x128 .f32) (w : IVec S128x128 32) (l q : Fin 128) :
    k0_pay1 (F := Ideal) (mulf v (bitcastToFloat .f32 w)) (Scalar.ofBits .f32 0xC3E00000#32) (Scalar.ofBits .f32 0x43E00000#32) (ix3 0 l q)
      = min (Ideal.ofBits .f32 0x43E00000#32) (max (Ideal.ofBits .f32 0xC3E00000#32) (v (ix2 l q) * Ideal.ofBits .f32 (w (ix2 l q)))) := by
  pointwise [k0_pay1]

/-- The codes a point stores, at an index. -/
theorem blockCodes_at (G : Vec Ideal S512x2048 .f32) (s : Fin 512) (d : Fin 2048) :
    blockCodes G (ix3 0 s d) = min (Ideal.ofBits .f32 0x43E00000#32) (max (Ideal.ofBits .f32 0xC3E00000#32)
      (G (ix2 s d) * Ideal.ofBits .f32 (downWord (peak G s ⟨d.val / 64, by omega⟩)))) := by
  unfold blockCodes codesOf
  refine (product_at _ _ _ _).trans ?_
  rw [half_at, largests_at]
  have e1 : (⟨256 * (s.val / 256) + 128 * (s.val / 128 % 2) + s.val % 128, by omega⟩ : Fin 512) = s := Fin.ext (by show 256 * (s.val / 256) + 128 * (s.val / 128 % 2) + s.val % 128 = s.val; omega)
  have e2 : (⟨2 * (d.val / 128) + d.val % 128 / 64, by omega⟩ : Fin 32) = ⟨d.val / 64, by omega⟩ := Fin.ext (by show 2 * (d.val / 128) + d.val % 128 / 64 = d.val / 64; omega)
  refine congrArg (fun x => min (Ideal.ofBits .f32 0x43E00000#32) (max (Ideal.ofBits .f32 0xC3E00000#32) x)) ?_
  refine congrArg₂ (fun x y => x * Ideal.ofBits .f32 (downWord y)) ?_ ?_
  · unfold tile
    refine congrArg G ?_
    funext a
    apply Fin.ext
    fin_cases a
    · show 256 * (s.val / 256) + 128 * (s.val / 128 % 2) + 1 * (s.val % 128) = s.val
      omega
    · show 128 * (d.val / 128) + 1 * (d.val % 128) = d.val
      omega
  · exact congrArg₂ (peak G) e1 e2

end Cert.Proof

end
-- ==== Proof.RefQuant.lean ====
module

public import proofs.«01_k».proof.Proof.RefArrays
public import proofs.«01_k».proof.Proof.Scalars

@[expose] public section

noncomputable section

namespace Cert.Proof.Ref

open Idealize.ShloMosaic Idealize.ShloMosaic.TcCoe Cert.ReferenceIdeal Cert.ReferenceIdeal.Gen

/-! The reference's quantiser, as functions of the token gradients. -/

/-- The gradients in blocks of 64 columns. -/
def blocksOf (G : FVec Ideal S24x3072x2048 .f32) : FVec Ideal S24x3072x32x64 .f32 :=
  shapeCast S24x3072x32x64 G shapeCasts_S24x3072x2048_S24x3072x32x64

/-- The largest magnitude of each block. -/
def largestOf (G : FVec Ideal S24x3072x2048 .f32) : FVec Ideal S24x3072x32 .f32 :=
  multiReduction .maximumf [3] S24x3072x32 (absf (blocksOf G)) 0xFF800000#32 reduces_S24x3072x32x64_S24x3072x32 (.inl rfl) rfl

/-- One step of the loop that finds the exponents. -/
def exponentStep (A : FVec Ideal S24x3072x32 .f32) (k : Fin k0_t1_loop.trips) (q : FVec Ideal S24x3072x32 .f32) : FVec Ideal S24x3072x32 .f32 :=
  select (cmpf .oge (mulf A (broadcast S24x3072x32 (Scalar.ofBits .f32 0x3B124925#32)))
      (exp2 (sitofp .f32 (broadcast S24x3072x32 (Scf.iv 4294967147#32 1#32 k)))))
    (broadcast S24x3072x32 (Scalar.addf (Scalar.sitofp .f32 (Scf.iv 4294967147#32 1#32 k)) (Scalar.ofBits .f32 0x3F800000#32))) q

/-- The exponents the loop finds. -/
def exponentsOf (A : FVec Ideal S24x3072x32 .f32) : FVec Ideal S24x3072x32 .f32 :=
  Scf.fold (exponentStep A) (k0_pay19 (F := Ideal))

/-- Where the block is zero. -/
def emptyOf (A : FVec Ideal S24x3072x32 .f32) : IVec S24x3072x32 1 :=
  cmpf .oeq A (broadcast S24x3072x32 (Scalar.ofBits .f32 0x00000000#32))

/-- The scales the reference stores. -/
def scalesOf (G : FVec Ideal S24x3072x2048 .f32) : FVec Ideal S24x32x3072 .f32 :=
  k0_pay3 (exponentsOf (largestOf G)) (emptyOf (largestOf G)) (Scalar.ofBits .f32 0x00000000#32)

/-- The codes the reference stores. -/
def codesOf (G : FVec Ideal S24x3072x2048 .f32) : FVec Ideal S24x3072x2048 .fp8e4m3 :=
  k0_pay2 (blocksOf G) (exponentsOf (largestOf G)) (emptyOf (largestOf G)) (Scalar.ofBits .f32 0x00000000#32)

/-- The largest magnitude of 64 columns of a token. -/
def peakOf (G : FVec Ideal S24x3072x2048 .f32) (b : Fin 24) (s : Fin 3072) (n : Fin 32) : EReal :=
  Finset.univ.sup fun r : Fin 64 => FloatOps.absf (F := Ideal) (φ := .f32) (G (ix3 b s ⟨64 * n.val + r.val, by omega⟩))

/-- The largest magnitude at an index. -/
theorem largestOf_at (G : FVec Ideal S24x3072x2048 .f32) (b : Fin 24) (s : Fin 3072) (n : Fin 32) :
    largestOf G (ix3 b s n) = peakOf G b s n := by
  unfold largestOf blocksOf peakOf
  pointwise
  rw [negInf_eq]
  refine Eq.trans (b := Finset.univ.sup fun r : Fin 64 => FloatOps.absf (F := Ideal) (φ := .f32) (G (ix3 b s ⟨n.val * 64 + r.val, by omega⟩))) rfl ?_
  refine congrArg (Finset.univ.sup ·) (funext fun r => ?_)
  refine congrArg (fun x => FloatOps.absf (F := Ideal) (φ := .f32) (G (ix3 b s x))) (Fin.ext ?_)
  show n.val * 64 + r.val = 64 * n.val + r.val
  omega

/-- The exponent of a block whose largest magnitude is `a`. -/
def exponentAt (a : EReal) : EReal :=
  (List.finRange k0_t1_loop.trips).foldl
    (fun q (k : Fin k0_t1_loop.trips) => if Ideal.exp2 (((Scf.iv 4294967147#32 1#32 k.val).toInt : ℝ) : EReal) ≤ a * Ideal.ofBits .f32 0x3B124925#32
      then (((Scf.iv 4294967147#32 1#32 k.val).toInt : ℝ) : EReal) + 1 else q) (Ideal.ofBits .f32 0xC3150000#32)

/-- The exponents at an index. -/
theorem exponentsOf_at (A : FVec Ideal S24x3072x32 .f32) (b : Fin 24) (s : Fin 3072) (n : Fin 32) :
    exponentsOf A (ix3 b s n) = exponentAt (A (ix3 b s n)) := by
  unfold exponentsOf exponentAt
  rw [Scf.fold_eq]
  refine (List.foldl_hom (fun v : FVec Ideal S24x3072x32 .f32 => v (ix3 b s n)) (init := k0_pay19 (F := Ideal)) fun v k => ?_).symm
  pointwise [exponentStep]
  rfl

/-- The exponents used, where an empty block has exponent 0. -/
theorem used_at (q A : FVec Ideal S24x3072x32 .f32) (b : Fin 24) (s : Fin 3072) (n : Fin 32) :
    k0_pay1 q (emptyOf A) (Scalar.ofBits .f32 0x00000000#32) (ix3 b s n) = if A (ix3 b s n) = 0 then 0 else q (ix3 b s n) := by
  pointwise [k0_pay1, emptyOf]

/-- The exponent of a token's block, 0 if the block is zero. -/
def usedExponent (a : EReal) : EReal := if a = 0 then 0 else exponentAt a

/-- The exponents used, of the token gradients. -/
theorem used_of (G : FVec Ideal S24x3072x2048 .f32) (b : Fin 24) (s : Fin 3072) (n : Fin 32) :
    k0_pay1 (exponentsOf (largestOf G)) (emptyOf (largestOf G)) (Scalar.ofBits .f32 0x00000000#32) (ix3 b s n)
      = usedExponent (peakOf G b s n) := by
  rw [used_at, exponentsOf_at, largestOf_at]
  rfl

/-- The scales are powers of two of the exponents. -/
theorem power_at (q : FVec Ideal S24x3072x32 .f32) (e : IVec S24x3072x32 1) (z : Ideal .f32) (b : Fin 24) (n : Fin 32) (s : Fin 3072) :
    k0_pay3 q e z (ix3 b n s) = Ideal.exp2 (k0_pay1 q e z (ix3 b s n)) := by
  unfold k0_pay3
  generalize k0_pay1 q e z = u
  pointwise
  rfl

/-- The scales at an index. -/
theorem scalesOf_at (G : FVec Ideal S24x3072x2048 .f32) (b : Fin 24) (n : Fin 32) (s : Fin 3072) :
    scalesOf G (ix3 b n s) = Ideal.exp2 (usedExponent (peakOf G b s n)) := by
  unfold scalesOf
  exact (power_at _ _ _ b n s).trans (congrArg Ideal.exp2 (used_of G b s n))

/-- The codes are the gradients over the scales, clipped. -/
theorem clipped_at (v : FVec Ideal S24x3072x32x64 .f32) (q : FVec Ideal S24x3072x32 .f32) (e : IVec S24x3072x32 1) (z : Ideal .f32)
    (b : Fin 24) (s : Fin 3072) (d : Fin 2048) :
    k0_pay2 v q e z (ix3 b s d) = min (Ideal.ofBits .f32 0x43E00000#32) (max (Ideal.ofBits .f32 0xC3E00000#32)
      (v (ix4 b s ⟨d.val / 64, by omega⟩ ⟨d.val % 64, by omega⟩) * Ideal.exp2 (0 - k0_pay1 q e z (ix3 b s ⟨d.val / 64, by omega⟩)))) := by
  unfold k0_pay2
  generalize k0_pay1 q e z = u
  pointwise
  rfl

/-- The gradients in blocks, at an index. -/
theorem blocksOf_at (G : FVec Ideal S24x3072x2048 .f32) (b : Fin 24) (s : Fin 3072) (d : Fin 2048) :
    blocksOf G (ix4 b s ⟨d.val / 64, by omega⟩ ⟨d.val % 64, by omega⟩) = G (ix3 b s d) := by
  unfold blocksOf
  pointwise

/-- The codes at an index. -/
theorem codesOf_at (G : FVec Ideal S24x3072x2048 .f32) (b : Fin 24) (s : Fin 3072) (d : Fin 2048) :
    codesOf G (ix3 b s d) = min (Ideal.ofBits .f32 0x43E00000#32) (max (Ideal.ofBits .f32 0xC3E00000#32)
      (G (ix3 b s d) * Ideal.exp2 (0 - usedExponent (peakOf G b s ⟨d.val / 64, by omega⟩)))) := by
  unfold codesOf
  refine (clipped_at _ _ _ _ b s d).trans ?_
  rw [blocksOf_at, used_of]

section
variable (c : Dev nD) (arg0 : Memref sig .tc .vmem S24x3072x2048 .fp8e4m3) (harg0 : arg0.IsWhole) (arg1 : Memref sig .tc .vmem S24x3072 .f32) (harg1 : arg1.IsWhole) (arg2 : Memref sig .tc .vmem S2048x128 .bf16) (harg2 : arg2.IsWhole) (arg3 : Memref sig .tc .vmem S24x3072x8 .i32) (harg3 : arg3.IsWhole) (arg4 : Memref sig .tc .vmem S24x3072x8 .bf16) (harg4 : arg4.IsWhole) (arg5 : Memref sig .tc .vmem S24x3072x2048 .bf16) (harg5 : arg5.IsWhole) (arg6 : Memref sig .tc .vmem S24x3072x2048 .bf16) (harg6 : arg6.IsWhole) (arg7 : Memref sig .tc .vmem S2048x128 .f32) (harg7 : arg7.IsWhole) (arg8 : Memref sig .tc .vmem S24x3072x128 .f32) (harg8 : arg8.IsWhole) (arg9 : Memref sig .tc .vmem S24x3072x2048 .fp8e4m3) (harg9 : arg9.IsWhole) (arg10 : Memref sig .tc .vmem S24x32x3072 .f32) (harg10 : arg10.IsWhole)
  (x0 : Vec Ideal S24x3072x2048 .fp8e4m3) (x1 : Vec Ideal S24x3072 .f32) (x2 : Vec Ideal S2048x128 .bf16)
  (x3 : Vec Ideal S24x3072x8 .i32) (x4 : Vec Ideal S24x3072x8 .bf16) (x5 : Vec Ideal S24x3072x2048 .bf16)

/-- The body stores the codes of the token gradients. -/
theorem out0_A_9_eq : out0_A_9 c arg0 harg0 arg1 harg1 arg2 harg2 arg3 harg3 arg4 harg4 arg5 harg5 arg6 harg6 arg7 harg7 arg8 harg8 arg9 harg9 arg10 harg10 x0 x1 x2 x3 x4 x5 = codesOf (hidden x0 x1 x2 x3 x4 x5) := by
  frame_open
  frame_out
  rfl

/-- The body stores the scales of the token gradients. -/
theorem out0_A_10_eq : out0_A_10 c arg0 harg0 arg1 harg1 arg2 harg2 arg3 harg3 arg4 harg4 arg5 harg5 arg6 harg6 arg7 harg7 arg8 harg8 arg9 harg9 arg10 harg10 x0 x1 x2 x3 x4 x5 = scalesOf (hidden x0 x1 x2 x3 x4 x5) := by
  frame_open
  frame_out
  rfl

end

variable (m : (ℓ : Loc nD τ sig) → Buf (Elt Ideal) ℓ) (c : Dev nD)

/-- The array of codes. -/
theorem codes_array : (dats m 0 c).arrAt 9 cfg0.N = codesOf (hidden (argX m c) (argS m c) (argW m c) (argI m c) (argG m c) (argY m c)) := by
  refine (dats m 0 c).arrAt_eq_of_after_last 9 t0 (by decide +kernel) _ fun j => ?_
  blk_simp
  rw [after0_9, outsAt0]
  dsimp only
  rw [out0_A_9_eq, read0, read1, read2, read3, read4, read5]

/-- The array of scales. -/
theorem scales_array : (dats m 0 c).arrAt 10 cfg0.N = scalesOf (hidden (argX m c) (argS m c) (argW m c) (argI m c) (argG m c) (argY m c)) := by
  refine (dats m 0 c).arrAt_eq_of_after_last 10 t0 (by decide +kernel) _ fun j => ?_
  blk_simp
  rw [after0_10, outsAt0]
  dsimp only
  rw [out0_A_10_eq, read0, read1, read2, read3, read4, read5]

end Cert.Proof.Ref

end
-- ==== Proof.Mask.lean ====
module

public import proofs.«01_k».proof.Defs
public import proofs.«01_k».proof.Proof.Gen.On_router_results_and_plain_blocks
public import proofs.«01_k».proof.Proof.Inputs
public import proofs.«01_k».proof.Proof.Scalars

@[expose] public section

noncomputable section

/-! What the mask says where it holds. -/

namespace Cert.Proof

open Idealize.ShloMosaic Idealize.ShloMosaic.TcCoe Cert.KernelIdeal Cert.KernelIdeal.Gen

/-- A conjunction of bits is one only where each is. -/
theorem and_one {a b : BitVec 1} (h : IntOp.andi a b = 1#1) : a = 1#1 ∧ b = 1#1 := by
  have key : ∀ a b : BitVec 1, IntOp.andi a b = 1#1 → a = 1#1 ∧ b = 1#1 := by decide
  exact key a b h

/-- A disjunction of bits is one only where one of them is. -/
theorem or_one {a b : BitVec 1} (h : IntOp.ori a b = 1#1) : a = 1#1 ∨ b = 1#1 := by
  have key : ∀ a b : BitVec 1, IntOp.ori a b = 1#1 → a = 1#1 ∨ b = 1#1 := by decide
  exact key a b h

/-- A conjunction of many bits is one only where each is. -/
theorem all_one {n : ℕ} (f : Fin n → BitVec 1) (h : Finset.univ.fold IntOp.andi (1#1) f = 1#1) (j : Fin n) : f j = 1#1 := by
  have key : ∀ S : Finset (Fin n), S.fold IntOp.andi (1#1) f = 1#1 → ∀ j ∈ S, f j = 1#1 := by
    intro S
    induction S using Finset.induction_on with
    | empty => exact fun _ j hj => absurd hj (Finset.notMem_empty j)
    | insert a S ha ih =>
      intro hS j hj
      rw [Finset.fold_insert ha] at hS
      rcases Finset.mem_insert.mp hj with rfl | hj
      · exact (and_one hS).1
      · exact ih (and_one hS).2 j hj
  exact key _ h j (Finset.mem_univ j)

/-- A disjunction of many bits is one only where one of them is. -/
theorem some_one {n : ℕ} (f : Fin n → BitVec 1) (h : Finset.univ.fold IntOp.ori (0#1) f = 1#1) : ∃ j, f j = 1#1 := by
  have key : ∀ S : Finset (Fin n), S.fold IntOp.ori (0#1) f = 1#1 → ∃ j, f j = 1#1 := by
    intro S
    induction S using Finset.induction_on with
    | empty => exact fun hS => absurd hS (by rw [Finset.fold_empty]; decide)
    | insert a S ha ih =>
      intro hS
      rw [Finset.fold_insert ha] at hS
      rcases or_one hS with h | h
      · exact ⟨a, h⟩
      · exact ih h
  exact key _ h

/-- A decided proposition's bit is one only where it holds. -/
theorem of_bit {p : Prop} {d : Decidable p} (h : BitVec.ofBool (decide p) = 1#1) : p := by
  by_contra hn
  rw [decide_eq_false hn] at h
  exact absurd h (by decide)

/-- The largest magnitude of block `n` of a token's residuals. -/
def residualPeak (x5 : Vec Ideal S24x3072x2048 .bf16) (b : Fin 24) (s : Fin 3072) (n : Fin 32) : EReal :=
  Finset.univ.sup fun r : Fin 64 => max (x5 (ix3 b s ⟨64 * n.val + r.val, by omega⟩) : EReal) (-(x5 (ix3 b s ⟨64 * n.val + r.val, by omega⟩) : EReal))

/-- The largest magnitude of a token's gate gradients. -/
def gatePeak (x4 : Vec Ideal S24x3072x8 .bf16) (b : Fin 24) (s : Fin 3072) : EReal :=
  Finset.univ.sup fun j : Fin 8 => max (x4 (ix3 b s j) : EReal) (-(x4 (ix3 b s j) : EReal))

/-- The largest magnitude of the weights of 64 features. -/
def weightPeak (x2 : Vec Ideal S2048x128 .bf16) (n : Fin 32) : EReal :=
  Finset.univ.sup fun r : Fin 64 => Finset.univ.sup fun e : Fin 128 =>
    max (x2 (ix2 ⟨64 * n.val + r.val, by omega⟩ e) : EReal) (-(x2 (ix2 ⟨64 * n.val + r.val, by omega⟩ e) : EReal))

/-- How far a token's gradient may be from its residual in block `n`. -/
def slackOf (x2 : Vec Ideal S2048x128 .bf16) (x4 : Vec Ideal S24x3072x8 .bf16) (b : Fin 24) (s : Fin 3072) (n : Fin 32) : EReal :=
  Ideal.ofBits .f32 0x40000000#32 * gatePeak x4 b s * weightPeak x2 n

/-- A block whose largest magnitude is clear of the powers of two, or zero. -/
def Clear (A : EReal) : Prop :=
  (∃ k : Fin 246, Ideal.ofBits .f32 0x43E08000#32 * Ideal.ofBits .f32 (IntOp.shli .host (IntOp.addi (BitVec.ofNat 32 k.val) 1#32) 23#32) ≤ A
    ∧ A < Ideal.ofBits .f32 0x445FC000#32 * Ideal.ofBits .f32 (IntOp.shli .host (IntOp.addi (BitVec.ofNat 32 k.val) 1#32) 23#32)) ∨ A = 0

/-- The largest magnitude in the printed order. -/
theorem residualPeak_eq (x5 : Vec Ideal S24x3072x2048 .bf16) (b : Fin 24) (s : Fin 3072) (n : Fin 32) :
    residualPeak x5 b s n = Finset.univ.fold max (Ideal.ofBits FTy.f32 4286578688#32)
      (fun r : Fin 64 => FloatOps.absf (F := Ideal) (φ := .f32) (x5 (ix3 b s ⟨n.val * 64 + r.val, by omega⟩))) := by
  rw [negInf_eq]
  refine congrArg (Finset.univ.sup ·) (funext fun r => ?_)
  have i : (⟨64 * n.val + r.val, by omega⟩ : Fin 2048) = ⟨n.val * 64 + r.val, by omega⟩ := Fin.ext (by show 64 * n.val + r.val = n.val * 64 + r.val; omega)
  rw [i]
  rfl

/-- A block whose largest residual stays clear of the powers of two whatever the slack adds to it, or a block of zeros
    at a token without gate gradients. -/
def ClearBy (A B D : EReal) : Prop :=
  (∃ k : Fin 246, Ideal.ofBits .f32 0x43E08000#32 * Ideal.ofBits .f32 (IntOp.shli .host (IntOp.addi (BitVec.ofNat 32 k.val) 1#32) 23#32) ≤ A - B
    ∧ A + B < Ideal.ofBits .f32 0x445FC000#32 * Ideal.ofBits .f32 (IntOp.shli .host (IntOp.addi (BitVec.ofNat 32 k.val) 1#32) 23#32)) ∨ A = 0 ∧ D = 0

end Cert.Proof

namespace Cert.Proof.Mask

open Idealize.ShloMosaic Cert.On_router_results_and_plain_blocks Cert.On_router_results_and_plain_blocks.Facts

/-- The largest magnitude of each block of the residuals. -/
def largest (x5 : FVec Ideal S24x3072x2048 .bf16) : FVec Ideal S24x3072x32 .f32 :=
  Host.reduce FloatOps.maximumf (Host.absf (shapeCast S24x3072x32x64 (extf .f32 x5 bitsLt_bf16_f32) shapeCasts_S24x3072x2048_S24x3072x32x64))
    (constant S_ .f32 0xFF800000#32) reducesTo_S24x3072x32x64_S24x3072x32_d3 h_S_

/-- The powers of two. -/
def power : FVec Ideal S1x1x1x246 .f32 :=
  bitcastToFloat .f32 (Host.shli (addi (iotaInDim S1x1x1x246 32 3) (broadcastInDim S1x1x1x246 ![] bcast_S_S1x1x1x246 (constantI S_ 32 1#32)))
    (broadcastInDim S1x1x1x246 ![] bcast_S_S1x1x1x246 (constantI S_ 32 23#32)))

/-- A row of bounds, for every block. -/
def bounds (w : BitVec 32) (P : FVec Ideal S1x1x1x246 .f32) : FVec Ideal S24x3072x32x246 .f32 :=
  broadcastInDim S24x3072x32x246 ![0, 1, 2, 3] bcast_S1x1x1x246_S24x3072x32x246_0_1_2_3
    (mulf (broadcastInDim S1x1x1x246 ![] bcast_S_S1x1x1x246 (constant S_ .f32 w)) P)

/-- A magnitude of every block, for every bound. -/
def repeated (A : FVec Ideal S24x3072x32 .f32) : FVec Ideal S24x3072x32x246 .f32 :=
  broadcastInDim S24x3072x32x246 ![0, 1, 2, 3] bcast_S24x3072x32x1_S24x3072x32x246_0_1_2_3
    (broadcastInDim S24x3072x32x1 ![0, 1, 2] bcast_S24x3072x32_S24x3072x32x1_0_1_2 A)

/-- Where a block's bounds lie between the bounds of some power. -/
def inside (lo hi : FVec Ideal S24x3072x32 .f32) : IVec S24x3072x32 1 :=
  Host.reduce IntOp.ori (andi (cmpf .oge (repeated lo) (bounds 0x43E08000#32 power)) (cmpf .olt (repeated hi) (bounds 0x445FC000#32 power)))
    (constantI S_ 1 0#1) reducesTo_S24x3072x32x246_S24x3072x32_d3 h_S_

/-- The largest magnitude of each token's gate gradients. -/
def gates (x4 : FVec Ideal S24x3072x8 .bf16) : FVec Ideal S24x3072 .f32 :=
  Host.reduce FloatOps.maximumf (Host.absf (extf .f32 x4 bitsLt_bf16_f32)) (constant S_ .f32 0xFF800000#32) reducesTo_S24x3072x8_S24x3072_d2 h_S_

/-- The largest magnitude of each feature's weights. -/
def rows (x2 : FVec Ideal S2048x128 .bf16) : FVec Ideal S2048 .f32 :=
  Host.reduce FloatOps.maximumf (Host.absf (extf .f32 x2 bitsLt_bf16_f32)) (constant S_ .f32 0xFF800000#32) reducesTo_S2048x128_S2048_d1 h_S_

/-- The largest of 64 features. -/
def grouped (w : FVec Ideal S2048 .f32) : FVec Ideal S32 .f32 :=
  Host.reduce FloatOps.maximumf (shapeCast S32x64 w shapeCasts_S2048_S32x64) (constant S_ .f32 0xFF800000#32) reducesTo_S32x64_S32_d1 h_S_

/-- How far a token's gradient may be from its residual, block by block. -/
def slack (G : FVec Ideal S24x3072 .f32) (W : FVec Ideal S32 .f32) : FVec Ideal S24x3072x32 .f32 :=
  mulf (broadcastInDim S24x3072x32 ![0, 1, 2] bcast_S24x3072x1_S24x3072x32_0_1_2 (broadcastInDim S24x3072x1 ![0, 1] bcast_S24x3072_S24x3072x1_0_1
      (mulf (broadcastInDim S24x3072 ![] bcast_S_S24x3072 (constant S_ .f32 0x40000000#32)) G)))
    (broadcastInDim S24x3072x32 ![0, 1, 2] bcast_S1x1x32_S24x3072x32_0_1_2 (broadcastInDim S1x1x32 ![2] bcast_S32_S1x1x32_2 W))

/-- The blocks of zeros at tokens without gate gradients. -/
def empty (A : FVec Ideal S24x3072x32 .f32) (G : FVec Ideal S24x3072 .f32) : IVec S24x3072x32 1 :=
  andi (cmpf .oeq A (broadcastInDim S24x3072x32 ![] bcast_S_S24x3072x32 (constant S_ .f32 0x00000000#32)))
    (broadcastInDim S24x3072x32 ![0, 1, 2] bcast_S24x3072x1_S24x3072x32_0_1_2 (broadcastInDim S24x3072x1 ![0, 1] bcast_S24x3072_S24x3072x1_0_1
      (cmpf .oeq G (broadcastInDim S24x3072 ![] bcast_S_S24x3072 (constant S_ .f32 0x00000000#32)))))

/-- The blocks claimed. -/
def block (A B : FVec Ideal S24x3072x32 .f32) (G : FVec Ideal S24x3072 .f32) : IVec S24x3072x32 1 :=
  ori (inside (subf A B) (addf A B)) (empty A G)

variable (x0 : FVec Ideal S24x3072x2048 .fp8e4m3) (x1 : FVec Ideal S24x3072 .f32) (x2 : FVec Ideal S2048x128 .bf16)
  (x3 : IVec S24x3072x8 32) (x4 : FVec Ideal S24x3072x8 .bf16) (x5 : FVec Ideal S24x3072x2048 .bf16)

/-- The printed mask of the scales. -/
theorem scales_eq : (fn (F := Ideal) x0 x1 x2 x3 x4 x5).2.2.2.2
    = transpose S24x32x3072 [0, 2, 1] (block (largest x5) (slack (gates x4) (grouped (rows x2))) (gates x4)) transposes_S24x3072x32_S24x32x3072_0_2_1 := rfl

/-- The printed mask of the codes. -/
theorem codes_eq : (fn (F := Ideal) x0 x1 x2 x3 x4 x5).2.2.2.1
    = shapeCast S24x3072x2048 (broadcastInDim S24x3072x32x64 ![0, 1, 2] bcast_S24x3072x32_S24x3072x32x64_0_1_2
        (block (largest x5) (slack (gates x4) (grouped (rows x2))) (gates x4))) shapeCasts_S24x3072x32x64_S24x3072x2048 := rfl

/-- The blocks' mask, with tokens and blocks exchanged. -/
theorem exchanged_at (v : IVec S24x3072x32 1) (b : Fin 24) (n : Fin 32) (s : Fin 3072) :
    transpose S24x32x3072 [0, 2, 1] v transposes_S24x3072x32_S24x32x3072_0_2_1 (ix3 b n s) = v (ix3 b s n) := by
  pointwise

/-- The blocks' mask, repeated along 64 columns. -/
theorem widened_at (v : IVec S24x3072x32 1) (b : Fin 24) (s : Fin 3072) (d : Fin 2048) :
    shapeCast S24x3072x2048 (broadcastInDim S24x3072x32x64 ![0, 1, 2] bcast_S24x3072x32_S24x3072x32x64_0_1_2 v)
      shapeCasts_S24x3072x32x64_S24x3072x2048 (ix3 b s d) = v (ix3 b s ⟨d.val / 64, by omega⟩) := by
  pointwise

/-- The blocks of zeros, at an index. -/
theorem empty_at (A : FVec Ideal S24x3072x32 .f32) (G : FVec Ideal S24x3072 .f32) (b : Fin 24) (s : Fin 3072) (k : Fin 32) :
    empty A G (ix3 b s k) = IntOp.andi (BitVec.ofBool (decide (A (ix3 b s k) = 0))) (BitVec.ofBool (decide (G (ix2 b s) = 0))) := by
  unfold empty
  pointwise

/-- The slack, at an index. -/
theorem slack_at (G : FVec Ideal S24x3072 .f32) (W : FVec Ideal S32 .f32) (b : Fin 24) (s : Fin 3072) (k : Fin 32) :
    slack G W (ix3 b s k) = Ideal.ofBits .f32 0x40000000#32 * G (ix2 b s) * W (ix1 k) := by
  unfold slack
  pointwise

/-- The gate gradients' magnitudes, at an index. -/
theorem gates_at (b : Fin 24) (s : Fin 3072) : gates x4 (ix2 b s) = gatePeak x4 b s := by
  unfold gates
  pointwise
  rw [negInf_eq]
  rfl

/-- The features' magnitudes, at an index. -/
theorem rows_at (d : Fin 2048) : rows x2 (ix1 d) = Finset.univ.sup fun e : Fin 128 => max (x2 (ix2 d e) : EReal) (-(x2 (ix2 d e) : EReal)) := by
  unfold rows
  pointwise
  rw [negInf_eq]
  rfl

/-- The largest of 64 features, at an index. -/
theorem grouped_at (w : FVec Ideal S2048 .f32) (n : Fin 32) :
    grouped w (ix1 n) = Finset.univ.sup fun r : Fin 64 => (w (ix1 ⟨64 * n.val + r.val, by omega⟩) : EReal) := by
  unfold grouped
  pointwise
  rw [negInf_eq]
  refine congrArg (Finset.univ.sup ·) (funext fun r => ?_)
  exact congrArg w (congrArg ix1 (Fin.ext (by show n.val * 64 + r.val = 64 * n.val + r.val; omega)))

/-- The weights' magnitudes, at an index. -/
theorem weights_at (n : Fin 32) : grouped (rows x2) (ix1 n) = weightPeak x2 n := by
  rw [grouped_at]
  exact congrArg (Finset.univ.sup ·) (funext fun r => rows_at x2 _)

/-- The largest magnitudes, at an index. -/
theorem largest_at (b : Fin 24) (s : Fin 3072) (n : Fin 32) :
    largest x5 (ix3 b s n) = Finset.univ.fold max (Ideal.ofBits FTy.f32 4286578688#32)
      (fun r : Fin 64 => FloatOps.absf (F := Ideal) (φ := .f32) (x5 (ix3 b s ⟨n.val * 64 + r.val, by omega⟩))) := by
  unfold largest
  pointwise

/-- A power, at an index. -/
theorem power_at (k : Fin 246) :
    power (ix4 0 0 0 k) = Ideal.ofBits .f32 (IntOp.shli .host (IntOp.addi (BitVec.ofNat 32 k.val) 1#32) 23#32) := by
  unfold power
  pointwise

/-- A bound, at an index. -/
theorem bounds_at (w : BitVec 32) (P : FVec Ideal S1x1x1x246 .f32) (b : Fin 24) (s : Fin 3072) (n : Fin 32) (k : Fin 246) :
    bounds w P (ix4 b s n k) = Ideal.ofBits .f32 w * P (ix4 0 0 0 k) := by
  unfold bounds
  pointwise

/-- A repeated magnitude, at an index. -/
theorem repeated_at (A : FVec Ideal S24x3072x32 .f32) (b : Fin 24) (s : Fin 3072) (n : Fin 32) (k : Fin 246) :
    repeated A (ix4 b s n k) = A (ix3 b s n) := by
  unfold repeated
  pointwise

/-- Two comparisons and a disjunction over the bounds, at an index. -/
theorem between_at (u l v h : FVec Ideal S24x3072x32x246 .f32) (b : Fin 24) (s : Fin 3072) (n : Fin 32) :
    Host.reduce IntOp.ori (andi (cmpf .oge u l) (cmpf .olt v h)) (constantI S_ 1 0#1) reducesTo_S24x3072x32x246_S24x3072x32_d3 h_S_ (ix3 b s n)
      = Finset.univ.fold IntOp.ori (0#1) (fun k : Fin 246 => IntOp.andi (BitVec.ofBool (decide (l (ix4 b s n k) ≤ u (ix4 b s n k))))
          (BitVec.ofBool (decide (v (ix4 b s n k) < h (ix4 b s n k))))) := by
  pointwise

/-- The largest magnitude in the printed order. -/
theorem largest_eq (b : Fin 24) (s : Fin 3072) (n : Fin 32) : largest x5 (ix3 b s n) = residualPeak x5 b s n :=
  (largest_at x5 b s n).trans (residualPeak_eq x5 b s n).symm

/-- A block between the bounds of some power. -/
theorem inside_holds (lo hi : FVec Ideal S24x3072x32 .f32) (b : Fin 24) (s : Fin 3072) (n : Fin 32) (h : inside lo hi (ix3 b s n) = 1#1) :
    ∃ k : Fin 246, Ideal.ofBits .f32 0x43E08000#32 * Ideal.ofBits .f32 (IntOp.shli .host (IntOp.addi (BitVec.ofNat 32 k.val) 1#32) 23#32) ≤ lo (ix3 b s n)
      ∧ hi (ix3 b s n) < Ideal.ofBits .f32 0x445FC000#32 * Ideal.ofBits .f32 (IntOp.shli .host (IntOp.addi (BitVec.ofNat 32 k.val) 1#32) 23#32) := by
  unfold inside at h
  rw [between_at] at h
  obtain ⟨k, hk⟩ := some_one _ h
  have h3 := of_bit (and_one hk).1
  have h4 := of_bit (and_one hk).2
  rw [repeated_at, bounds_at, power_at] at h3 h4
  exact ⟨k, h3, h4⟩

/-- A claimed block, by its two ways. -/
theorem block_at (A B : FVec Ideal S24x3072x32 .f32) (G : FVec Ideal S24x3072 .f32) (b : Fin 24) (s : Fin 3072) (n : Fin 32) :
    block A B G (ix3 b s n) = IntOp.ori (inside (subf A B) (addf A B) (ix3 b s n)) (empty A G (ix3 b s n)) := by
  unfold block
  generalize inside (subf A B) (addf A B) = u
  generalize empty A G = v
  rfl

/-- What a block that some power bounds is. -/
theorem block_holds (A B : FVec Ideal S24x3072x32 .f32) (G : FVec Ideal S24x3072 .f32) (b : Fin 24) (s : Fin 3072) (n : Fin 32)
    (h : block A B G (ix3 b s n) = 1#1) : ClearBy (A (ix3 b s n)) (B (ix3 b s n)) (G (ix2 b s)) := by
  rw [block_at, empty_at] at h
  rcases or_one h with h2 | h2
  · exact Or.inl (inside_holds (subf A B) (addf A B) b s n h2)
  · exact Or.inr ⟨of_bit (and_one h2).1, of_bit (and_one h2).2⟩

/-- The slack of the printed mask. -/
theorem slack_eq (b : Fin 24) (s : Fin 3072) (n : Fin 32) : slack (gates x4) (grouped (rows x2)) (ix3 b s n) = slackOf x2 x4 b s n :=
  (slack_at _ _ b s n).trans (congrArg₂ (fun x y : EReal => Ideal.ofBits .f32 0x40000000#32 * x * y) (gates_at x4 b s) (weights_at x2 n))

/-- What a claimed block is: it is clear of the powers, by the slack. -/
theorem claimed (b : Fin 24) (s : Fin 3072) (n : Fin 32)
    (h : block (largest x5) (slack (gates x4) (grouped (rows x2))) (gates x4) (ix3 b s n) = 1#1) :
    ClearBy (residualPeak x5 b s n) (slackOf x2 x4 b s n) (gatePeak x4 b s) := by
  have h2 := block_holds _ _ _ b s n h
  rw [largest_eq, slack_eq, gates_at] at h2
  exact h2

/-- Where the mask of the scales holds the block is clear of the powers, by the slack. -/
theorem scale_mask (b : Fin 24) (n : Fin 32) (s : Fin 3072) (h : (fn (F := Ideal) x0 x1 x2 x3 x4 x5).2.2.2.2 (ix3 b n s) = 1#1) :
    ClearBy (residualPeak x5 b s n) (slackOf x2 x4 b s n) (gatePeak x4 b s) := by
  rw [scales_eq, exchanged_at] at h
  exact claimed x2 x4 x5 b s n h

/-- Where the mask of the codes holds the block is clear of the powers, by the slack. -/
theorem code_mask (b : Fin 24) (s : Fin 3072) (d : Fin 2048) (h : (fn (F := Ideal) x0 x1 x2 x3 x4 x5).2.2.2.1 (ix3 b s d) = 1#1) :
    ClearBy (residualPeak x5 b s ⟨d.val / 64, by omega⟩) (slackOf x2 x4 b s ⟨d.val / 64, by omega⟩) (gatePeak x4 b s) := by
  rw [codes_eq, widened_at] at h
  exact claimed x2 x4 x5 b s _ h

end Cert.Proof.Mask

end
-- ==== Proof.Powers.lean ====
module

public import proofs.«01_k».proof.Proof.QuantValue
public import proofs.«01_k».proof.Proof.RefQuant
public import proofs.«01_k».proof.Proof.Mask

@[expose] public section

noncomputable section

/-! The exponents that the kernel counts and that the reference's loop finds, in a block clear of the powers of two. -/

namespace Cert.Proof

open Idealize.ShloMosaic

/-- A positive normal word's value. -/
theorem word_value (w : BitVec 32) (ex fr : ℕ) (h1 : (w.extractLsb' 31 1 == 1#1) = false) (h2 : (w.extractLsb' 23 8).toNat = ex)
    (h3 : (w.extractLsb' 0 23).toNat = fr) (h4 : ex ≠ 255) (h5 : ex ≠ 0) :
    Ideal.ofBits .f32 w = ((((2 ^ 23 + fr : ℕ) : ℝ) * (2 : ℝ) ^ ((ex : ℤ) - 150) : ℝ) : EReal) := by
  show Ideal.ieee 8 23 w = _
  unfold Ideal.ieee
  simp only [h2, h3]
  rw [if_neg (by omega), if_neg h5]
  simp only [show (w.extractLsb' (8 + 23) 1 == 1#1) = false from h1]
  congr 2
  · simp
  · congr 1
    norm_num
    ring

/-- A word whose only set bits are its exponent's is a power of two. -/
theorem power_word (k : ℕ) (h1 : 1 ≤ k) (h2 : k ≤ 254) :
    Ideal.ofBits .f32 (BitVec.ofNat 32 (k * 2 ^ 23)) = (((2 : ℝ) ^ ((k : ℤ) - 127) : ℝ) : EReal) := by
  have key : ∀ k : Fin 255, ((BitVec.ofNat 32 (k.val * 2 ^ 23)).extractLsb' 31 1 == 1#1) = false
      ∧ ((BitVec.ofNat 32 (k.val * 2 ^ 23)).extractLsb' 23 8).toNat = k.val
      ∧ ((BitVec.ofNat 32 (k.val * 2 ^ 23)).extractLsb' 0 23).toNat = 0 := by decide +kernel
  obtain ⟨e1, e2, e3⟩ := key ⟨k, by omega⟩
  rw [word_value _ k 0 e1 e2 e3 (by omega) (by omega)]
  congr 1
  rw [show ((2 ^ 23 + 0 : ℕ) : ℝ) = (2 : ℝ) ^ (23 : ℤ) by norm_num, ← zpow_add₀ (by norm_num)]
  congr 1
  ring

/-- The word after the last power is infinity. -/
theorem last_word : Ideal.ofBits .f32 (BitVec.ofNat 32 (255 * 2 ^ 23)) = (⊤ : EReal) := by
  show Ideal.ieee 8 23 (BitVec.ofNat 32 (255 * 2 ^ 23)) = ⊤
  unfold Ideal.ieee
  rw [if_pos (by decide), if_pos (by decide), if_neg (by decide)]

/-- The kernel's constant. -/
theorem probe_eq : probe = (((9568257 : ℝ) * (2 : ℝ) ^ (-24 : ℤ) : ℝ) : EReal) := by
  unfold probe
  rw [word_value _ 126 1179649 (by decide) (by decide) (by decide) (by decide) (by decide)]
  norm_num

/-- The reference's constant. -/
theorem inverse_eq : Ideal.ofBits .f32 0x3B124925#32 = (((9586981 : ℝ) * (2 : ℝ) ^ (-32 : ℤ) : ℝ) : EReal) := by
  rw [word_value _ 118 1198373 (by decide) (by decide) (by decide) (by decide) (by decide)]
  norm_num

/-- The mask's lower bound. -/
theorem lower_eq : Ideal.ofBits .f32 0x43E08000#32 = ((449 : ℝ) : EReal) := by
  rw [word_value _ 135 6324224 (by decide) (by decide) (by decide) (by decide) (by decide)]
  norm_num

/-- The mask's upper bound. -/
theorem upper_eq : Ideal.ofBits .f32 0x445FC000#32 = ((895 : ℝ) : EReal) := by
  rw [word_value _ 136 6275072 (by decide) (by decide) (by decide) (by decide) (by decide)]
  norm_num

/-- The words of the mask's powers. -/
theorem mask_word (k : Fin 246) : IntOp.shli .host (IntOp.addi (BitVec.ofNat 32 k.val) 1#32) 23#32 = BitVec.ofNat 32 ((k.val + 1) * 2 ^ 23) := by
  revert k
  decide +kernel

/-- The words of the kernel's powers. -/
theorem count_word (k : Fin 255) : Scalar.shli (Scf.iv 1#32 1#32 k.val) 23#32 = BitVec.ofNat 32 ((k.val + 1) * 2 ^ 23) := by
  revert k
  decide +kernel

/-- The exponents the reference's loop runs through. -/
theorem loop_value (k : Fin 277) : (Scf.iv 4294967147#32 1#32 k.val).toInt = (k.val : ℤ) - 149 := by
  revert k
  decide +kernel

/-- A block clear of the powers: zero, or a real between 449 and 895 times a power. -/
theorem clear_real (A : EReal) (h : Clear A) :
    A = 0 ∨ ∃ (k : Fin 246) (r : ℝ), A = (r : EReal) ∧ 449 * (2 : ℝ) ^ ((k.val : ℤ) - 126) ≤ r ∧ r < 895 * (2 : ℝ) ^ ((k.val : ℤ) - 126) := by
  rcases h with ⟨k, h1, h2⟩ | h
  · right
    rw [mask_word, power_word _ (by omega) (by omega), show (((k.val + 1 : ℕ) : ℤ) - 127) = (k.val : ℤ) - 126 by push_cast; ring] at h1 h2
    rw [lower_eq, ← EReal.coe_mul] at h1
    rw [upper_eq, ← EReal.coe_mul] at h2
    induction A using EReal.rec with
    | bot => exact absurd h1 (not_le.mpr (EReal.bot_lt_coe _))
    | top => exact absurd h2 (not_lt.mpr le_top)
    | coe r => exact ⟨k, r, rfl, EReal.coe_le_coe_iff.mp h1, EReal.coe_lt_coe_iff.mp h2⟩
  · exact Or.inl h

/-- A count of the trips below `m`. -/
theorem count_below (N m : ℕ) (f : ℕ → BitVec 32) (hf : ∀ k < N, f k = if k < m then 1#32 else 0#32) :
    (List.finRange N).foldl (fun a (k : Fin N) => IntOp.addi a (f k.val)) 0#32 = BitVec.ofNat 32 (min m N) := by
  induction N with
  | zero => simp
  | succ N ih =>
    rw [List.finRange_succ_last, List.foldl_concat, List.foldl_map]
    rw [show (List.finRange N).foldl (fun a (k : Fin N) => IntOp.addi a (f (k.castSucc).val)) 0#32 = _ from ih fun k hk => hf k (by omega)]
    rw [Fin.val_last, hf N (by omega)]
    show BitVec.ofNat 32 (min m N) + _ = _
    by_cases h : N < m
    · rw [if_pos h, show min m (N + 1) = min m N + 1 by omega, BitVec.ofNat_add]
    · rw [if_neg h, show min m (N + 1) = min m N by omega, BitVec.add_zero]

/-- The last value taken, of the trips below `m`. -/
theorem last_below (N m : ℕ) (p : ℕ → Prop) [DecidablePred p] (v : ℕ → EReal) (z : EReal) (hp : ∀ k < N, p k ↔ k < m) :
    (List.finRange N).foldl (fun q (k : Fin N) => if p k.val then v k.val else q) z = if min m N = 0 then z else v (min m N - 1) := by
  induction N with
  | zero => simp
  | succ N ih =>
    rw [List.finRange_succ_last, List.foldl_concat, List.foldl_map]
    rw [show (List.finRange N).foldl (fun q (k : Fin N) => if p (k.castSucc).val then v (k.castSucc).val else q) z = _ from ih fun k hk => hp k (by omega)]
    rw [Fin.val_last]
    by_cases h : N < m
    · rw [if_pos ((hp N (by omega)).mpr h), if_neg (by omega), show min m (N + 1) - 1 = N by omega]
    · rw [if_neg (fun x => h ((hp N (by omega)).mp x)), show min m (N + 1) = min m N by omega]

/-- Powers of two are ordered as their exponents. -/
theorem power_le (a b : ℤ) (h : a ≤ b) : (2 : ℝ) ^ a ≤ (2 : ℝ) ^ b := zpow_le_zpow_right₀ (by norm_num) h

/-- A magnitude between two powers reaches as many powers as are below it. -/
theorem exponentOf_eq (X : EReal) (m : ℕ) (hm : m ≤ 254)
    (h1 : ∀ k : ℕ, k < m → (((2 : ℝ) ^ ((k : ℤ) - 126) : ℝ) : EReal) ≤ X) (h2 : X < (((2 : ℝ) ^ ((m : ℤ) - 126) : ℝ) : EReal)) :
    exponentOf X = BitVec.ofNat 32 m := by
  have hN : Cert.KernelIdeal.k0_t2_loop.trips = 255 := by decide
  unfold exponentOf
  refine (count_below _ m (fun k => if X < Ideal.ofBits .f32 (Scalar.shli (Scf.iv 1#32 1#32 k) 23#32) then 0#32 else 1#32) ?_).trans ?_
  · intro k hk
    rw [hN] at hk
    rw [count_word ⟨k, hk⟩]
    by_cases h : k < m
    · rw [if_pos h, power_word _ (by show 1 ≤ k + 1; omega) (by show k + 1 ≤ 254; omega), if_neg]
      rw [show (((k + 1 : ℕ) : ℤ) - 127) = (k : ℤ) - 126 by push_cast; ring]
      exact not_lt.mpr (h1 k h)
    · rw [if_neg h, if_pos]
      by_cases hk' : k = 254
      · subst hk'
        rw [last_word]
        exact lt_of_lt_of_le h2 le_top
      · rw [power_word _ (by show 1 ≤ k + 1; omega) (by show k + 1 ≤ 254; omega)]
        refine lt_of_lt_of_le h2 (EReal.coe_le_coe_iff.mpr (power_le _ _ ?_))
        show (m : ℤ) - 126 ≤ ((k + 1 : ℕ) : ℤ) - 127
        push_cast
        omega
  · rw [hN, show min m 255 = m by omega]

/-- The scale's exponent, from the count. -/
theorem scaleExponent_eq (X : EReal) (k : Fin 246) (h : exponentOf X = BitVec.ofNat 32 (k.val + 9)) : scaleExponent X = BitVec.ofNat 32 (k.val + 2) := by
  have key : ∀ k : Fin 246, Scalar.select (IntOp.cmpi CmpIPredicate.sge (IntOp.subi (BitVec.ofNat 32 (k.val + 9)) 7#32) 2#32)
      (IntOp.subi (BitVec.ofNat 32 (k.val + 9)) 7#32) 127#32 = BitVec.ofNat 32 (k.val + 2) := by decide +kernel
  unfold scaleExponent
  rw [h]
  exact key k

/-- The scale's exponent of an empty block. -/
theorem scaleExponent_zero (X : EReal) (h : exponentOf X = 0#32) : scaleExponent X = 127#32 := by
  unfold scaleExponent
  rw [h]
  decide

/-- The words of the scales and of their reciprocals. -/
theorem scale_words (k : Fin 255) : IntOp.shli .vector (BitVec.ofNat 32 k.val) 23#32 = BitVec.ofNat 32 (k.val * 2 ^ 23)
    ∧ IntOp.shli .vector (IntOp.subi 254#32 (BitVec.ofNat 32 k.val)) 23#32 = BitVec.ofNat 32 ((254 - k.val) * 2 ^ 23) := by
  revert k
  decide +kernel

/-- The scale's exponent of a block whose largest magnitude is clear of the powers. -/
theorem kernel_exponent (k : Fin 246) (r : ℝ) (h1 : 449 * (2 : ℝ) ^ ((k.val : ℤ) - 126) ≤ r) (h2 : r < 895 * (2 : ℝ) ^ ((k.val : ℤ) - 126)) :
    scaleExponent ((r : EReal) * probe) = BitVec.ofNat 32 (k.val + 2) := by
  refine scaleExponent_eq _ k (exponentOf_eq _ (k.val + 9) (by omega) ?_ ?_)
  · intro j hj
    rw [probe_eq, ← EReal.coe_mul, EReal.coe_le_coe_iff]
    refine (power_le _ ((k.val : ℤ) - 126 + 8) (by omega)).trans ?_
    rw [zpow_add₀ (by norm_num)]
    have hp : (0 : ℝ) < (2 : ℝ) ^ ((k.val : ℤ) - 126) := by positivity
    norm_num
    nlinarith
  · rw [probe_eq, ← EReal.coe_mul, EReal.coe_lt_coe_iff]
    rw [show (((k.val + 9 : ℕ) : ℤ) - 126) = (k.val : ℤ) - 126 + 9 by push_cast; ring, zpow_add₀ (by norm_num)]
    have hp : (0 : ℝ) < (2 : ℝ) ^ ((k.val : ℤ) - 126) := by positivity
    norm_num
    nlinarith

/-- The exponent the reference finds for such a block. -/
theorem reference_exponent (k : Fin 246) (r : ℝ) (h1 : 449 * (2 : ℝ) ^ ((k.val : ℤ) - 126) ≤ r) (h2 : r < 895 * (2 : ℝ) ^ ((k.val : ℤ) - 126)) :
    Ref.exponentAt (r : EReal) = ((((k.val : ℤ) - 125 : ℤ) : ℝ) : EReal) := by
  have hN : Cert.ReferenceIdeal.k0_t1_loop.trips = 277 := by decide
  have hp : (0 : ℝ) < (2 : ℝ) ^ ((k.val : ℤ) - 126) := by positivity
  unfold Ref.exponentAt
  refine (last_below _ (k.val + 24)
    (fun j => Ideal.exp2 (((Scf.iv 4294967147#32 1#32 j).toInt : ℝ) : EReal) ≤ (r : EReal) * Ideal.ofBits .f32 0x3B124925#32)
    (fun j => (((Scf.iv 4294967147#32 1#32 j).toInt : ℝ) : EReal) + 1) _ ?_).trans ?_
  · intro j hj
    rw [hN] at hj
    show Ideal.exp2 (((Scf.iv 4294967147#32 1#32 j).toInt : ℝ) : EReal) ≤ (r : EReal) * Ideal.ofBits .f32 0x3B124925#32 ↔ _
    rw [loop_value ⟨j, hj⟩, inverse_eq, ← EReal.coe_mul, Ideal.exp2_coe, EReal.coe_le_coe_iff]
    rw [show Real.rpow 2 (((j : ℤ) - 149 : ℤ) : ℝ) = (2 : ℝ) ^ ((j : ℤ) - 149) from Real.rpow_intCast 2 _]
    constructor
    · intro h
      by_contra hj'
      have h3 := (power_le ((k.val : ℤ) - 126 + 1) ((j : ℤ) - 149) (by omega)).trans h
      rw [zpow_add₀ (by norm_num)] at h3
      norm_num at h3
      nlinarith
    · intro h
      refine (power_le _ ((k.val : ℤ) - 126) (by omega)).trans ?_
      norm_num
      nlinarith
  · rw [hN, if_neg (by omega), show min (k.val + 24) 277 - 1 = k.val + 23 by omega]
    show (((Scf.iv 4294967147#32 1#32 (k.val + 23)).toInt : ℝ) : EReal) + 1 = _
    rw [loop_value ⟨k.val + 23, by omega⟩]
    rw [← EReal.coe_one, ← EReal.coe_add]
    congr 1
    push_cast
    ring

end Cert.Proof

end
-- ==== Proof.Slack.lean ====
module

public import proofs.«01_k».proof.Proof.RouterMath

@[expose] public section

noncomputable section

/-! How far the router's gradient can move a token: no further than twice its largest gate gradient times the largest weight. -/

namespace Cert.Proof

open Idealize.ShloMosaic
open scoped BigOperators

/-- A number of bounded magnitude is real. -/
theorem real_of_abs (z : EReal) (d : ℝ) (h : max z (-z) ≤ (d : EReal)) : ∃ x : ℝ, z = (x : EReal) ∧ |x| ≤ d := by
  induction z using EReal.rec with
  | bot => exact absurd ((le_max_right _ _).trans h) (by simp)
  | top => exact absurd ((le_max_left _ _).trans h) (by simp)
  | coe x =>
    refine ⟨x, rfl, abs_le'.mpr ⟨?_, ?_⟩⟩
    · exact EReal.coe_le_coe_iff.mp ((le_max_left _ _).trans h)
    · have := (le_max_right _ _).trans h
      rw [← EReal.coe_neg] at this
      exact EReal.coe_le_coe_iff.mp this

/-- The magnitude of a real. -/
theorem abs_coe (x : ℝ) : max (x : EReal) (-(x : EReal)) = ((|x| : ℝ) : EReal) := by
  rw [← EReal.coe_neg]
  exact (EReal.coe_strictMono.monotone.map_max).symm

/-- A magnitude is nowhere negative. -/
theorem abs_nonneg' (z : EReal) : 0 ≤ max z (-z) := by
  by_cases h : 0 ≤ z
  · exact h.trans (le_max_left _ _)
  · have : 0 ≤ -z := by
      rw [EReal.le_neg, neg_zero]
      exact (not_le.mp h).le
    exact this.trans (le_max_right _ _)

/-- The exponential of a number at most zero is real and at most one. -/
theorem exp_real (z : EReal) (h : z ≤ 0) : ∃ p : ℝ, Ideal.exp z = (p : EReal) ∧ 0 ≤ p := by
  induction z using EReal.rec with
  | bot => exact ⟨0, rfl, le_refl _⟩
  | top => exact absurd h (by simp)
  | coe r => exact ⟨Real.exp r, rfl, (Real.exp_pos r).le⟩

section
variable (ids : Fin 8 → BitVec 32) (dg : Fin 8 → EReal) (lg : Fin 128 → EReal)

/-- The unnormalised gates are real. -/
theorem rp_real (j : Fin 8) : ∃ p : ℝ, rp ids lg j = (p : EReal) ∧ 0 ≤ p := by
  refine exp_real _ ?_
  have h : rl ids lg j ≤ rm ids lg := by
    unfold rm
    rw [fold_max_sup]
    exact Finset.le_sup (Finset.mem_univ j)
  generalize rl ids lg j = x at h ⊢
  generalize rm ids lg = y at h ⊢
  exact EReal.sub_nonpos.mpr h

/-- The gates are real, nowhere negative, and add up to at most one. -/
theorem rg_real : ∃ g : Fin 8 → ℝ, (∀ j, rg ids lg j = (g j : EReal)) ∧ (∀ j, 0 ≤ g j) ∧ ∑ j, g j ≤ 1 := by
  choose p hp hp0 using rp_real ids lg
  have hs : rs ids lg = ((∑ j, p j : ℝ) : EReal) := by
    unfold rs
    simp only [hp]
    exact (map_sum (⟨⟨fun x : ℝ => (x : EReal), EReal.coe_zero⟩, EReal.coe_add⟩ : ℝ →+ EReal) p Finset.univ).symm
  by_cases h : ∑ j, p j = 0
  · refine ⟨p, fun j => ?_, hp0, by rw [h]; norm_num⟩
    unfold rg
    rw [hs, h, hp, EReal.coe_zero, if_pos rfl]
    unfold Ideal.div
    simp
  · refine ⟨fun j => p j * (∑ j, p j)⁻¹, fun j => ?_, fun j => mul_nonneg (hp0 j) (inv_nonneg.mpr (Finset.sum_nonneg fun j _ => hp0 j)), ?_⟩
    · have h' : ((∑ j, p j : ℝ) : EReal) ≠ 0 := fun x => h (by rw [← EReal.coe_zero] at x; exact EReal.coe_eq_coe_iff.mp x)
      unfold rg
      rw [hs, hp, if_neg h']
      unfold Ideal.div
      rw [if_neg h', ← EReal.coe_inv, ← EReal.coe_mul]
    · rw [← Finset.sum_mul, mul_inv_cancel₀ h]

/-- The gradients of the selected logits are real, and their magnitudes add up to at most twice the bound of the gate gradients. -/
theorem rsel_real (d : ℝ) (hg : ∀ j, max (dg j) (-(dg j)) ≤ (d : EReal)) :
    ∃ t : Fin 8 → ℝ, (∀ j, rsel ids dg lg j = (t j : EReal)) ∧ ∑ j, |t j| ≤ 2 * d := by
  choose x hx hxd using fun j => real_of_abs (dg j) d (hg j)
  obtain ⟨g, hg1, hg0, hgs⟩ := rg_real ids lg
  have hd : 0 ≤ d := (abs_nonneg _).trans (hxd 0)
  have e : ∑ k, rg ids lg k * dg k = ((∑ k, g k * x k : ℝ) : EReal) := by
    simp only [hg1, hx, ← EReal.coe_mul]
    exact (map_sum (⟨⟨fun x : ℝ => (x : EReal), EReal.coe_zero⟩, EReal.coe_add⟩ : ℝ →+ EReal) (fun k => g k * x k) Finset.univ).symm
  have hm : |∑ k, g k * x k| ≤ d := by
    refine (Finset.abs_sum_le_sum_abs _ _).trans ?_
    refine (Finset.sum_le_sum fun k _ => (by rw [abs_mul, abs_of_nonneg (hg0 k)]; exact mul_le_mul_of_nonneg_left (hxd k) (hg0 k) : |g k * x k| ≤ g k * d)).trans ?_
    rw [← Finset.sum_mul]
    nlinarith
  refine ⟨fun j => g j * (x j - ∑ k, g k * x k), fun j => ?_, ?_⟩
  · unfold rsel
    rw [e, hg1, hx, ← EReal.coe_sub, ← EReal.coe_mul]
  · refine (Finset.sum_le_sum fun j _ => (?_ : |g j * (x j - ∑ k, g k * x k)| ≤ g j * (2 * d))).trans ?_
    · rw [abs_mul, abs_of_nonneg (hg0 j)]
      refine mul_le_mul_of_nonneg_left ?_ (hg0 j)
      exact (abs_sub _ _).trans (by linarith [hxd j])
    · rw [← Finset.sum_mul]
      nlinarith

/-- Without gate gradients a token's logits have none. -/
theorem rgrad_zero (hg : ∀ j, dg j = 0) (e : Fin 128) : rgrad ids dg lg e = 0 := by
  have z : rsel ids dg lg = fun _ => 0 := by
    funext j
    unfold rsel
    simp [hg]
  unfold rgrad
  rw [z]
  unfold pick
  simp

variable (hd : ∀ i j, ids i = ids j → i = j)
include hd

/-- The product of the logits' gradients with real weights is bounded. -/
theorem product_real (d W : ℝ) (hg : ∀ j, max (dg j) (-(dg j)) ≤ (d : EReal)) (w : Fin 128 → EReal)
    (hw : ∀ e, max (w e) (-(w e)) ≤ (W : EReal)) :
    max (∑ e, rgrad ids dg lg e * w e) (-(∑ e, rgrad ids dg lg e * w e)) ≤ ((2 * d * W : ℝ) : EReal) := by
  choose u hu huW using fun e => real_of_abs (w e) W (hw e)
  obtain ⟨t, ht, hts⟩ := rsel_real ids dg lg d hg
  have hW : 0 ≤ W := (abs_nonneg _).trans (huW 0)
  have hy : ∀ j, ∃ y : ℝ, |y| ≤ W ∧ (∀ e, ids j = eid e → y = u e) ∧ ((∀ e, ids j ≠ eid e) → y = 0) := by
    intro j
    by_cases h : ∃ e, ids j = eid e
    · obtain ⟨e, he⟩ := h
      exact ⟨u e, huW e, fun f hf => by rw [eid_inj (he.symm.trans hf)], fun hn => absurd he (hn e)⟩
    · push Not at h
      exact ⟨0, by rw [abs_zero]; exact hW, fun e he => absurd he (h e), fun _ => rfl⟩
  choose y hyW hy1 hy0 using hy
  have e : ∑ e, rgrad ids dg lg e * w e = ∑ j, ((t j * y j : ℝ) : EReal) := by
    refine sum_route ids hd _ _ ?_ ?_ ?_
    · intro j e h
      unfold rgrad
      rw [← h, pick_hit ids hd, ht, hu, hy1 j e h, ← EReal.coe_mul]
    · intro e h
      unfold rgrad
      rw [pick_miss _ _ _ _ h, zero_mul]
    · intro j h
      rw [hy0 j h, mul_zero, EReal.coe_zero]
  have e' : ∑ j, ((t j * y j : ℝ) : EReal) = ((∑ j, t j * y j : ℝ) : EReal) :=
    (map_sum (⟨⟨fun x : ℝ => (x : EReal), EReal.coe_zero⟩, EReal.coe_add⟩ : ℝ →+ EReal) (fun j => t j * y j) Finset.univ).symm
  rw [e, e', abs_coe, EReal.coe_le_coe_iff]
  refine (Finset.abs_sum_le_sum_abs _ _).trans ?_
  refine (Finset.sum_le_sum fun j _ => (by rw [abs_mul]; exact mul_le_mul_of_nonneg_left (hyW j) (abs_nonneg _) : |t j * y j| ≤ |t j| * W)).trans ?_
  rw [← Finset.sum_mul]
  exact mul_le_mul_of_nonneg_right hts hW

/-- The product of the logits' gradients with the weights is bounded by twice the gate gradients' bound times the weights', if that is finite. -/
theorem product_le (D W : EReal) (hg : ∀ j, max (dg j) (-(dg j)) ≤ D) (w : Fin 128 → EReal) (hw : ∀ e, max (w e) (-(w e)) ≤ W)
    (hB : ((2 : ℝ) : EReal) * D * W ≠ ⊤) :
    max (∑ e, rgrad ids dg lg e * w e) (-(∑ e, rgrad ids dg lg e * w e)) ≤ ((2 : ℝ) : EReal) * D * W := by
  have hD0 : 0 ≤ D := (abs_nonneg' _).trans (hg 0)
  have hW0 : 0 ≤ W := (abs_nonneg' _).trans (hw 0)
  have zero_of : ∀ z : EReal, max z (-z) ≤ 0 → z = 0 := by
    intro z hz
    obtain ⟨x, rfl, hx⟩ := real_of_abs z 0 (by rw [EReal.coe_zero]; exact hz)
    rw [abs_nonpos_iff.mp hx, EReal.coe_zero]
  by_cases hD : D = 0
  · subst hD
    have z : ∑ e, rgrad ids dg lg e * w e = 0 :=
      Finset.sum_eq_zero fun e _ => by rw [rgrad_zero ids dg lg (fun j => zero_of _ (hg j)), zero_mul]
    rw [z]
    simp
  by_cases hW : W = 0
  · subst hW
    have z : ∑ e, rgrad ids dg lg e * w e = 0 :=
      Finset.sum_eq_zero fun e _ => by rw [zero_of _ (hw e), mul_zero]
    rw [z]
    simp
  have hDp : 0 < D := lt_of_le_of_ne hD0 (Ne.symm hD)
  have hWp : 0 < W := lt_of_le_of_ne hW0 (Ne.symm hW)
  have hDt : D ≠ ⊤ := by
    rintro rfl
    rw [EReal.coe_mul_top_of_pos (by norm_num), EReal.top_mul_of_pos hWp] at hB
    exact hB rfl
  have hDb : D ≠ ⊥ := fun h => absurd hDp (by rw [h]; simp)
  have hWb : W ≠ ⊥ := fun h => absurd hWp (by rw [h]; simp)
  lift D to ℝ using ⟨hDt, hDb⟩
  have hWt : W ≠ ⊤ := by
    rintro rfl
    rw [← EReal.coe_mul, EReal.coe_mul_top_of_pos (by have := EReal.coe_pos.mp hDp; linarith)] at hB
    exact hB rfl
  lift W to ℝ using ⟨hWt, hWb⟩
  rw [← EReal.coe_mul, ← EReal.coe_mul]
  exact product_real ids dg lg hd D W hg w hw

end

end Cert.Proof

end
-- ==== Proof.Quantised.lean ====
module

public import proofs.«01_k».proof.Proof.QuantPoints
public import proofs.«01_k».proof.Proof.CodeValue
public import proofs.«01_k».proof.Proof.Powers
public import proofs.«01_k».proof.Proof.Equation
public import proofs.«01_k».proof.Proof.Slack

@[expose] public section

noncomputable section

/-! The kernel's codes and scales are the reference's in the blocks that the mask claims. -/

namespace Cert.Proof

open Idealize.ShloMosaic Idealize.ShloMosaic.TcCoe Cert.KernelIdeal Cert.KernelIdeal.Gen

/-- The power of two of an integer exponent. -/
theorem exp2_int (z : ℤ) : Ideal.exp2 ((z : ℝ) : EReal) = (((2 : ℝ) ^ z : ℝ) : EReal) := by
  rw [Ideal.exp2_coe]
  exact congrArg _ (Real.rpow_intCast 2 z)

/-- In a block clear of the powers, the kernel's scale and its reciprocal are the reference's. -/
theorem scale_agrees (A : EReal) (h : Clear A) :
    Ideal.ofBits .f32 (IntOp.shli .vector (scaleExponent (A * probe)) 23#32) = Ideal.exp2 (Ref.usedExponent A)
      ∧ Ideal.ofBits .f32 (downWord (A * probe)) = Ideal.exp2 (0 - Ref.usedExponent A) := by
  rcases clear_real A h with rfl | ⟨k, r, rfl, h1, h2⟩
  · have e : scaleExponent ((0 : EReal) * probe) = BitVec.ofNat 32 127 := by
      refine scaleExponent_zero _ (exponentOf_eq _ 0 (by decide) (fun k hk => absurd hk (Nat.not_lt_zero k)) ?_)
      rw [zero_mul, ← EReal.coe_zero, EReal.coe_lt_coe_iff]
      positivity
    have u : Ref.usedExponent 0 = (((0 : ℤ) : ℝ) : EReal) := by
      unfold Ref.usedExponent
      rw [if_pos rfl]
      simp
    unfold downWord
    rw [e, (scale_words ⟨127, by decide⟩).1, (scale_words ⟨127, by decide⟩).2, u, power_word _ (by decide) (by decide), power_word _ (by decide) (by decide),
      ← EReal.coe_zero, ← EReal.coe_sub, show (0 : ℝ) - ((0 : ℤ) : ℝ) = ((0 : ℤ) : ℝ) by simp, exp2_int]
    norm_num
  · have hp : (0 : ℝ) < (2 : ℝ) ^ ((k.val : ℤ) - 126) := by positivity
    have hr : (r : EReal) ≠ 0 := by
      rw [← EReal.coe_zero]
      exact fun x => absurd (EReal.coe_eq_coe_iff.mp x) (by nlinarith)
    have u : Ref.usedExponent (r : EReal) = ((((k.val : ℤ) - 125 : ℤ) : ℝ) : EReal) := by
      unfold Ref.usedExponent
      rw [if_neg hr, reference_exponent k r h1 h2]
    have w := scale_words ⟨k.val + 2, by omega⟩
    unfold downWord
    rw [kernel_exponent k r h1 h2, w.1, w.2, u, power_word _ (by show 1 ≤ k.val + 2; omega) (by show k.val + 2 ≤ 254; omega),
      power_word _ (by show 1 ≤ 254 - (k.val + 2); omega) (by show 254 - (k.val + 2) ≤ 254; omega),
      ← EReal.coe_zero, ← EReal.coe_sub, show (0 : ℝ) - (((k.val : ℤ) - 125 : ℤ) : ℝ) = ((125 - (k.val : ℤ) : ℤ) : ℝ) by push_cast; ring, exp2_int, exp2_int]
    constructor
    · rw [show (((k.val + 2 : ℕ) : ℤ) - 127) = (k.val : ℤ) - 125 by push_cast; ring]
    · rw [show (((254 - (k.val + 2) : ℕ) : ℤ) - 127) = 125 - (k.val : ℤ) by omega]

/-- The largest scaled magnitude is the largest magnitude, scaled. -/
theorem peak_eq (G : Vec Ideal S512x2048 .f32) (t : Fin 512) (j : Fin 32) :
    peak G t j = (Finset.univ.sup fun r : Fin 64 => max (G (ix2 t ⟨64 * j.val + r.val, by omega⟩) : EReal) (-(G (ix2 t ⟨64 * j.val + r.val, by omega⟩) : EReal))) * probe := by
  have hc : (0 : EReal) < probe := by
    rw [probe_eq, ← EReal.coe_zero, EReal.coe_lt_coe_iff]
    positivity
  have mono : Monotone fun x : EReal => x * probe := fun x y h => mul_le_mul_of_nonneg_right h hc.le
  have e := Finset.comp_sup_eq_sup_comp (s := Finset.univ)
    (f := fun r : Fin 64 => max (G (ix2 t ⟨64 * j.val + r.val, by omega⟩) : EReal) (-(G (ix2 t ⟨64 * j.val + r.val, by omega⟩) : EReal)))
    (fun x : EReal => x * probe) (fun x y => mono.map_max) (EReal.bot_mul_of_pos hc)
  refine Eq.trans ?_ e.symm
  unfold peak
  refine congrArg (Finset.univ.sup ·) (funext fun r => ?_)
  show max ((G _ : EReal) * probe) (-((G _ : EReal) * probe)) = max (G _ : EReal) (-(G _ : EReal)) * probe
  rw [← EReal.neg_mul]
  exact mono.map_max.symm

/-- The doubling constant. -/
theorem two_eq : Ideal.ofBits .f32 0x40000000#32 = ((2 : ℝ) : EReal) := by
  rw [word_value _ 128 0 (by decide) (by decide) (by decide) (by decide) (by decide)]
  norm_num

/-- A block clear of the powers by a slack stays clear when its members move by no more. -/
theorem clear_moved (S y : Fin 64 → EReal) (B D : EReal) (hB : 0 ≤ B) (hS : B ≠ ⊤ → ∀ r, max (S r) (-(S r)) ≤ B) (hz : D = 0 → B = 0)
    (h : ClearBy (Finset.univ.sup fun r => max (y r) (-(y r))) B D) : Clear (Finset.univ.sup fun r => max (S r + y r) (-(S r + y r))) := by
  have hy : ∀ r, max (y r) (-(y r)) ≤ Finset.univ.sup fun r => max (y r) (-(y r)) := fun r => Finset.le_sup (f := fun r => max (y r) (-(y r))) (Finset.mem_univ r)
  obtain ⟨q, -, hq⟩ := Finset.exists_mem_eq_sup Finset.univ ⟨(0 : Fin 64), Finset.mem_univ _⟩ fun r => max (y r) (-(y r))
  generalize (Finset.univ.sup fun r => max (y r) (-(y r))) = A at h hy hq
  rcases h with ⟨k, h1, h2⟩ | ⟨rfl, hD⟩
  · obtain ⟨P, hP⟩ : ∃ P : ℝ, Ideal.ofBits .f32 (IntOp.shli .host (IntOp.addi (BitVec.ofNat 32 k.val) 1#32) 23#32) = (P : EReal) :=
      ⟨_, by rw [mask_word, power_word _ (by omega) (by omega)]⟩
    rw [lower_eq, hP, ← EReal.coe_mul] at h1
    rw [upper_eq, hP, ← EReal.coe_mul] at h2
    have hBb : B ≠ ⊥ := fun e => absurd hB (by rw [e]; simp)
    have hBt : B ≠ ⊤ := by
      rintro rfl
      rw [EReal.sub_top] at h1
      exact absurd h1 (not_le.mpr (EReal.bot_lt_coe _))
    lift B to ℝ using ⟨hBt, hBb⟩
    have hAb : A ≠ ⊥ := by
      rintro rfl
      rw [EReal.bot_sub] at h1
      exact absurd h1 (not_le.mpr (EReal.bot_lt_coe _))
    have hAt : A ≠ ⊤ := by
      rintro rfl
      rw [EReal.top_add_coe] at h2
      exact absurd h2 (by simp)
    lift A to ℝ using ⟨hAt, hAb⟩
    choose y' hy1 hy2 using fun r => real_of_abs (y r) A (hy r)
    choose S' hS1 hS2 using fun r => real_of_abs (S r) B (hS hBt r)
    have e : ∀ r, max (S r + y r) (-(S r + y r)) = ((|S' r + y' r| : ℝ) : EReal) := by
      intro r
      rw [hy1, hS1, ← EReal.coe_add, abs_coe]
    have hq' : A = |y' q| := by
      rw [hy1, abs_coe] at hq
      exact EReal.coe_eq_coe_iff.mp hq
    rw [← EReal.coe_sub, EReal.coe_le_coe_iff] at h1
    rw [← EReal.coe_add, EReal.coe_lt_coe_iff] at h2
    refine Or.inl ⟨k, ?_, ?_⟩
    · rw [lower_eq, hP, ← EReal.coe_mul]
      refine le_trans ?_ (Finset.le_sup (f := fun r => max (S r + y r) (-(S r + y r))) (Finset.mem_univ q))
      rw [e, EReal.coe_le_coe_iff]
      have t := abs_sub_abs_le_abs_sub (y' q) (-(S' q))
      rw [abs_neg, sub_neg_eq_add, add_comm (y' q)] at t
      linarith [hS2 q]
    · rw [upper_eq, hP, ← EReal.coe_mul]
      refine lt_of_le_of_lt (Finset.sup_le fun r _ => ?_) (EReal.coe_lt_coe_iff.mpr h2)
      rw [e, EReal.coe_le_coe_iff]
      exact (abs_add_le _ _).trans (by linarith [hS2 r, hy2 r])
  · have hB0 := hz hD
    subst hB0
    have z : ∀ x : EReal, max x (-x) ≤ 0 → x = 0 := by
      intro x hx
      obtain ⟨x', rfl, hx'⟩ := real_of_abs x 0 (by rw [EReal.coe_zero]; exact hx)
      rw [abs_nonpos_iff.mp hx', EReal.coe_zero]
    have e : ∀ r, max (S r + y r) (-(S r + y r)) = 0 := by
      intro r
      rw [z _ (hy r), z _ (hS (by simp) r)]
      simp
    right
    simp only [e]
    exact Finset.sup_const ⟨(0 : Fin 64), Finset.mem_univ _⟩ 0

variable (m : (ℓ : Loc nD τ sig) → Buf (Elt Ideal) ℓ) (c : Dev nD)

variable (hd : ∀ (b : Fin 24) (s : Fin 3072) (i j : Fin 8), argI m c (ix3 b s i) = argI m c (ix3 b s j) → i = j)
  (hs : ∀ (b : Fin 24) (s : Fin 3072) (j : Fin 8), argG m c (ix3 b s j) ≠ sentinel)
include hd hs

/-- The gradient a point computes is the reference's. -/
theorem point_same (b : Fin 24) (s : Fin 3072) (d : Fin 2048) :
    pointHidden m c (pointOf b s) (ix2 ⟨s.val % 512, Nat.mod_lt _ (by decide)⟩ d)
      = Ref.hidden (argX m c) (argS m c) (argW m c) (argI m c) (argG m c) (argY m c) (ix3 b s d) := by
  have e : pointHidden m c (pointOf b s) (ix2 ⟨s.val % 512, Nat.mod_lt _ (by decide)⟩ d) = hiddenAt m c b s d := by
    show hiddenAt m c (batchOf (pointOf b s)) (tokenOf (pointOf b s) ⟨s.val % 512, Nat.mod_lt _ (by decide)⟩) d = _
    rw [batchOf_pointOf, tokenOf_pointOf]
  rw [e, ← hidden_array, hidden_same m c hd hs]

/-- The largest scaled magnitude of a block is the reference's largest magnitude, scaled. -/
theorem point_peak (b : Fin 24) (s : Fin 3072) (n : Fin 32) :
    peak (pointHidden m c (pointOf b s)) ⟨s.val % 512, Nat.mod_lt _ (by decide)⟩ n
      = Ref.peakOf (Ref.hidden (argX m c) (argS m c) (argW m c) (argI m c) (argG m c) (argY m c)) b s n * probe := by
  rw [peak_eq]
  unfold Ref.peakOf
  refine congrArg (fun f : Fin 64 → EReal => Finset.univ.sup f * probe) (funext fun r => ?_)
  exact congrArg (fun x : EReal => max x (-x)) (point_same m c hd hs b s _)

omit hs in
/-- In a claimed block the reference's largest magnitude is clear of the powers. -/
theorem reference_clear (b : Fin 24) (s : Fin 3072) (n : Fin 32)
    (h : ClearBy (residualPeak (argY m c) b s n) (slackOf (argW m c) (argG m c) b s n) (gatePeak (argG m c) b s)) :
    Clear (Ref.peakOf (Ref.hidden (argX m c) (argS m c) (argW m c) (argI m c) (argG m c) (argY m c)) b s n) := by
  have hg : ∀ j : Fin 8, max (argG m c (ix3 b s j) : EReal) (-(argG m c (ix3 b s j) : EReal)) ≤ gatePeak (argG m c) b s :=
    fun j => Finset.le_sup (f := fun j : Fin 8 => max (argG m c (ix3 b s j) : EReal) (-(argG m c (ix3 b s j) : EReal))) (Finset.mem_univ j)
  have hw : ∀ (r : Fin 64) (e : Fin 128), max (argW m c (ix2 ⟨64 * n.val + r.val, by omega⟩ e) : EReal) (-(argW m c (ix2 ⟨64 * n.val + r.val, by omega⟩ e) : EReal))
      ≤ weightPeak (argW m c) n :=
    fun r e => (Finset.le_sup (f := fun e : Fin 128 => max (argW m c (ix2 ⟨64 * n.val + r.val, by omega⟩ e) : EReal) (-(argW m c (ix2 ⟨64 * n.val + r.val, by omega⟩ e) : EReal)))
      (Finset.mem_univ e)).trans (Finset.le_sup (f := fun r : Fin 64 => Finset.univ.sup fun e : Fin 128 =>
        max (argW m c (ix2 ⟨64 * n.val + r.val, by omega⟩ e) : EReal) (-(argW m c (ix2 ⟨64 * n.val + r.val, by omega⟩ e) : EReal))) (Finset.mem_univ r))
  have hD0 := (abs_nonneg' _).trans (hg 0)
  have hW0 := (abs_nonneg' _).trans (hw 0 0)
  unfold slackOf at h
  rw [two_eq] at h
  have e : Ref.peakOf (Ref.hidden (argX m c) (argS m c) (argW m c) (argI m c) (argG m c) (argY m c)) b s n
      = Finset.univ.sup fun r : Fin 64 => max
          ((∑ k : Fin 128, Ref.gradAt (argX m c) (argS m c) (argW m c) (argI m c) (argG m c) b s k * argW m c (ix2 ⟨64 * n.val + r.val, by omega⟩ k)
            : EReal) + argY m c (ix3 b s ⟨64 * n.val + r.val, by omega⟩))
          (-((∑ k : Fin 128, Ref.gradAt (argX m c) (argS m c) (argW m c) (argI m c) (argG m c) b s k * argW m c (ix2 ⟨64 * n.val + r.val, by omega⟩ k)
            : EReal) + argY m c (ix3 b s ⟨64 * n.val + r.val, by omega⟩))) := by
    unfold Ref.peakOf
    refine congrArg (fun f : Fin 64 → EReal => Finset.univ.sup f) (funext fun r => ?_)
    exact congrArg (fun x : EReal => max x (-x)) (Ref.hidden_at _ _ _ _ _ _ b s _)
  rw [e]
  refine clear_moved _ _ _ _ ?_ (fun ht r => ?_) (fun hz => ?_) h
  · exact mul_nonneg (mul_nonneg (by rw [← EReal.coe_zero, EReal.coe_le_coe_iff]; norm_num) hD0) hW0
  · exact product_le _ _ _ (hd b s) _ _ hg _ (hw r) ht
  · rw [hz, mul_zero, zero_mul]

/-- The scales are the reference's. -/
theorem scales_same (b : Fin 24) (n : Fin 32) (s : Fin 3072)
    (h : ClearBy (residualPeak (argY m c) b s n) (slackOf (argW m c) (argG m c) b s n) (gatePeak (argG m c) b s)) :
    Value.G10 m c (ix3 b n s) = Ref.scalesOf (Ref.hidden (argX m c) (argS m c) (argW m c) (argI m c) (argG m c) (argY m c)) (ix3 b n s) := by
  rw [scales_array, blockScales_at]
  refine Eq.trans ?_ (Ref.scalesOf_at _ b n s).symm
  refine Eq.trans ?_ (scale_agrees _ (reference_clear m c hd b s n h)).1
  exact congrArg (fun X => Ideal.ofBits .f32 (IntOp.shli .vector (scaleExponent X) 23#32)) (point_peak m c hd hs b s n)

/-- The codes are the reference's. -/
theorem codes_same (b : Fin 24) (s : Fin 3072) (d : Fin 2048)
    (h : ClearBy (residualPeak (argY m c) b s ⟨d.val / 64, by omega⟩) (slackOf (argW m c) (argG m c) b s ⟨d.val / 64, by omega⟩) (gatePeak (argG m c) b s)) :
    Value.G9 m c (ix3 b s d) = Ref.codesOf (Ref.hidden (argX m c) (argS m c) (argW m c) (argI m c) (argG m c) (argY m c)) (ix3 b s d) := by
  rw [codes_array, blockCodes_at]
  refine Eq.trans ?_ (Ref.codesOf_at _ b s d).symm
  rw [point_same m c hd hs b s d, point_peak m c hd hs b s, (scale_agrees _ (reference_clear m c hd b s _ h)).2]

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Frame
public import proofs.«01_k».proof.Proof.Gen.ReferenceIdeal.Value
public import proofs.«01_k».proof.Proof.Gen.Pre_distinct_ids_and_plain_gates
public import proofs.«01_k».proof.Proof.Gen.On_router_results_and_plain_blocks
public import proofs.«01_k».proof.Proof.Precondition
public import proofs.«01_k».proof.Proof.Equation
public import proofs.«01_k».proof.Proof.Quantised
public import Idealize.ShloMosaic.Lib.Bf16Pair
public import Idealize.ShloMosaic.Adequacy
public import Idealize.ShloMosaic.Init

@[expose] public section

noncomputable section

namespace Cert.Proof

open Idealize.ShloMosaic Idealize.SL.Sem

/-- Over the reals the kernel's first three results are the reference's, and so are its codes and scales where the mask holds. -/
theorem results :
    Cert.algebraic_KernelIdeal_ReferenceIdeal_on_router_results_and_plain_blocks_pre_distinct_ids_and_plain_gates := by
  intro m g m' g' hm ha
  refine ⟨Cert.KernelIdeal.Value.G6 m, Cert.KernelIdeal.Value.G7 m, Cert.KernelIdeal.Value.G8 m,
    Cert.KernelIdeal.Value.G9 m, Cert.KernelIdeal.Value.G10 m, ?_, ?_⟩
  · refine (θ_run _ _ _).mono (fun r h c => ?_) (Cert.KernelIdeal.Value.run m g)
    obtain ⟨h0, h1, h2, h3, h4, k⟩ := h c
    exact ⟨fun i _ => congrFun h0 i, fun i _ => congrFun h1 i, fun i _ => congrFun h2 i, fun i _ => congrFun h3 i,
      fun i _ => congrFun h4 i, k⟩
  · refine (θ_run _ _ _).mono (fun r h c => ?_) (Cert.ReferenceIdeal.Value.run_blocks m' g')
    obtain ⟨h0, h1, h2, h3, h4, k⟩ := h c
    obtain ⟨a0, a1, a2, a3, a4, a5⟩ := ha c
    have hd := distinct m c hm
    have hs := plain m c hm
    refine ⟨fun i _ => ?_, fun i _ => ?_, fun i _ => ?_, fun i hi => ?_, fun i hi => ?_, k⟩
    · rw [h0, Ref.hidden_array, hidden_same m c hd hs]
      simp only [Ref.argX, Ref.argS, Ref.argW, Ref.argI, Ref.argG, Ref.argY, a0, a1, a2, a3, a4, a5]
    · rw [h1, Ref.weights_array, weights_same m c hd hs]
      simp only [Ref.argX, Ref.argS, Ref.argW, Ref.argI, Ref.argG, a0, a1, a2, a3, a4]
    · rw [h2, Ref.logits_array, logits_same m c hd hs]
      simp only [Ref.argX, Ref.argS, Ref.argW, Ref.argI, Ref.argG, a0, a1, a2, a3, a4]
    · obtain ⟨b, s, d, rfl⟩ : ∃ (b : Fin 24) (s : Fin 3072) (d : Fin 2048), i = ix3 b s d := ⟨_, _, _, eq_ix3 i⟩
      refine Eq.trans ?_ (codes_same m c hd hs b s d (Mask.code_mask _ _ _ _ _ _ b s d hi)).symm
      rw [h3, Ref.codes_array]
      simp only [Ref.argX, Ref.argS, Ref.argW, Ref.argI, Ref.argG, Ref.argY, a0, a1, a2, a3, a4, a5]
    · obtain ⟨b, n, s, rfl⟩ : ∃ (b : Fin 24) (n : Fin 32) (s : Fin 3072), i = ix3 b n s := ⟨_, _, _, eq_ix3 i⟩
      refine Eq.trans ?_ (scales_same m c hd hs b n s (Mask.scale_mask _ _ _ _ _ _ b n s hi)).symm
      rw [h4, Ref.scales_array]
      simp only [Ref.argX, Ref.argS, Ref.argW, Ref.argI, Ref.argG, Ref.argY, a0, a1, a2, a3, a4, a5]

/-- The certificate: each program ends with its arguments unchanged, the idealized kernel differs from the
    printed one only by rewrites that hold over the reals, and the first three results of the idealized kernel and
    of the reference are equal, as are the codes and scales that the mask claims. -/
theorem claim : Cert.Claim := ⟨Cert.Kernel.Gen.facts, Cert.KernelIdeal.Gen.facts, Cert.ReferenceIdeal.Gen.facts,
  Cert.Pre_distinct_ids_and_plain_gates.Gen.facts, Cert.On_router_results_and_plain_blocks.Gen.facts,
  fun m ρ _ => Cert.Kernel.Gen.frame m ρ, fun m ρ _ => Cert.KernelIdeal.Gen.frame m ρ,
  fun m ρ _ => Cert.KernelIdeal.Gen.frame m ρ, fun m ρ _ => Cert.ReferenceIdeal.Gen.frame m ρ,
  fun m ρ _ => Cert.ReferenceIdeal.Gen.frame m ρ,
  ⟨IdealRules.bf16_pair.packStatement _, IdealRules.bf16_pair.statement _ _,
    IdealRules.bf16_pair.statement _ _, IdealRules.bf16_pair.statement _ _⟩,
  results⟩

end Cert.Proof

end
